-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2 = (fun _ => 1#1)

def Pre_KernelErf (m : (ℓ : Loc Cert.KernelErf.nD Cert.KernelErf.τ Cert.KernelErf.sig) → Buf (Elt Bits) ℓ) : Prop :=
  True

def Pre_KernelErfIdeal (m : (ℓ : Loc Cert.KernelErfIdeal.nD Cert.KernelErfIdeal.τ Cert.KernelErfIdeal.sig) → Buf (Elt Ideal) ℓ) : Prop :=
  True

def Pre_KernelErfIdeal_drawn [hPre_drawn : Cert.Pre_drawn.Facts] (m : (ℓ : Loc Cert.KernelErfIdeal.nD Cert.KernelErfIdeal.τ Cert.KernelErfIdeal.sig) → Buf (Elt Ideal) ℓ) : Prop :=
  ∀ c : Dev Cert.KernelErfIdeal.nD,
    (Cert.Pre_drawn.fn (F := Ideal) (m ((c.tc : Thread Cert.KernelErfIdeal.nD Cert.KernelErfIdeal.τ).loc Cert.KernelErfIdeal.main_arg0)) (m ((c.tc : Thread Cert.KernelErfIdeal.nD Cert.KernelErfIdeal.τ).loc Cert.KernelErfIdeal.main_arg1)) (m ((c.tc : Thread Cert.KernelErfIdeal.nD Cert.KernelErfIdeal.τ).loc Cert.KernelErfIdeal.main_arg2)) (m ((c.tc : Thread Cert.KernelErfIdeal.nD Cert.KernelErfIdeal.τ).loc Cert.KernelErfIdeal.main_arg3)) (m ((c.tc : Thread Cert.KernelErfIdeal.nD Cert.KernelErfIdeal.τ).loc Cert.KernelErfIdeal.main_arg4)) (m ((c.tc : Thread Cert.KernelErfIdeal.nD Cert.KernelErfIdeal.τ).loc Cert.KernelErfIdeal.main_arg5)) (m ((c.tc : Thread Cert.KernelErfIdeal.nD Cert.KernelErfIdeal.τ).loc Cert.KernelErfIdeal.main_arg6)) (m ((c.tc : Thread Cert.KernelErfIdeal.nD Cert.KernelErfIdeal.τ).loc Cert.KernelErfIdeal.main_arg7)) (m ((c.tc : Thread Cert.KernelErfIdeal.nD Cert.KernelErfIdeal.τ).loc Cert.KernelErfIdeal.main_arg8)) (m ((c.tc : Thread Cert.KernelErfIdeal.nD Cert.KernelErfIdeal.τ).loc Cert.KernelErfIdeal.main_arg9)) (m ((c.tc : Thread Cert.KernelErfIdeal.nD Cert.KernelErfIdeal.τ).loc Cert.KernelErfIdeal.main_arg10)) (m ((c.tc : Thread Cert.KernelErfIdeal.nD Cert.KernelErfIdeal.τ).loc Cert.KernelErfIdeal.main_arg11))).1 = (fun _ => 1#1)
    ∧ (Cert.Pre_drawn.fn (F := Ideal) (m ((c.tc : Thread Cert.KernelErfIdeal.nD Cert.KernelErfIdeal.τ).loc Cert.KernelErfIdeal.main_arg0)) (m ((c.tc : Thread Cert.KernelErfIdeal.nD Cert.KernelErfIdeal.τ).loc Cert.KernelErfIdeal.main_arg1)) (m ((c.tc : Thread Cert.KernelErfIdeal.nD Cert.KernelErfIdeal.τ).loc Cert.KernelErfIdeal.main_arg2)) (m ((c.tc : Thread Cert.KernelErfIdeal.nD Cert.KernelErfIdeal.τ).loc Cert.KernelErfIdeal.main_arg3)) (m ((c.tc : Thread Cert.KernelErfIdeal.nD Cert.KernelErfIdeal.τ).loc Cert.KernelErfIdeal.main_arg4)) (m ((c.tc : Thread Cert.KernelErfIdeal.nD Cert.KernelErfIdeal.τ).loc Cert.KernelErfIdeal.main_arg5)) (m ((c.tc : Thread Cert.KernelErfIdeal.nD Cert.KernelErfIdeal.τ).loc Cert.KernelErfIdeal.main_arg6)) (m ((c.tc : Thread Cert.KernelErfIdeal.nD Cert.KernelErfIdeal.τ).loc Cert.KernelErfIdeal.main_arg7)) (m ((c.tc : Thread Cert.KernelErfIdeal.nD Cert.KernelErfIdeal.τ).loc Cert.KernelErfIdeal.main_arg8)) (m ((c.tc : Thread Cert.KernelErfIdeal.nD Cert.KernelErfIdeal.τ).loc Cert.KernelErfIdeal.main_arg9)) (m ((c.tc : Thread Cert.KernelErfIdeal.nD Cert.KernelErfIdeal.τ).loc Cert.KernelErfIdeal.main_arg10)) (m ((c.tc : Thread Cert.KernelErfIdeal.nD Cert.KernelErfIdeal.τ).loc Cert.KernelErfIdeal.main_arg11))).2.1 = (fun _ => 1#1)
    ∧ (Cert.Pre_drawn.fn (F := Ideal) (m ((c.tc : Thread Cert.KernelErfIdeal.nD Cert.KernelErfIdeal.τ).loc Cert.KernelErfIdeal.main_arg0)) (m ((c.tc : Thread Cert.KernelErfIdeal.nD Cert.KernelErfIdeal.τ).loc Cert.KernelErfIdeal.main_arg1)) (m ((c.tc : Thread Cert.KernelErfIdeal.nD Cert.KernelErfIdeal.τ).loc Cert.KernelErfIdeal.main_arg2)) (m ((c.tc : Thread Cert.KernelErfIdeal.nD Cert.KernelErfIdeal.τ).loc Cert.KernelErfIdeal.main_arg3)) (m ((c.tc : Thread Cert.KernelErfIdeal.nD Cert.KernelErfIdeal.τ).loc Cert.KernelErfIdeal.main_arg4)) (m ((c.tc : Thread Cert.KernelErfIdeal.nD Cert.KernelErfIdeal.τ).loc Cert.KernelErfIdeal.main_arg5)) (m ((c.tc : Thread Cert.KernelErfIdeal.nD Cert.KernelErfIdeal.τ).loc Cert.KernelErfIdeal.main_arg6)) (m ((c.tc : Thread Cert.KernelErfIdeal.nD Cert.KernelErfIdeal.τ).loc Cert.KernelErfIdeal.main_arg7)) (m ((c.tc : Thread Cert.KernelErfIdeal.nD Cert.KernelErfIdeal.τ).loc Cert.KernelErfIdeal.main_arg8)) (m ((c.tc : Thread Cert.KernelErfIdeal.nD Cert.KernelErfIdeal.τ).loc Cert.KernelErfIdeal.main_arg9)) (m ((c.tc : Thread Cert.KernelErfIdeal.nD Cert.KernelErfIdeal.τ).loc Cert.KernelErfIdeal.main_arg10)) (m ((c.tc : Thread Cert.KernelErfIdeal.nD Cert.KernelErfIdeal.τ).loc Cert.KernelErfIdeal.main_arg11))).2.2.1 = (fun _ => 1#1)
    ∧ (Cert.Pre_drawn.fn (F := Ideal) (m ((c.tc : Thread Cert.KernelErfIdeal.nD Cert.KernelErfIdeal.τ).loc Cert.KernelErfIdeal.main_arg0)) (m ((c.tc : Thread Cert.KernelErfIdeal.nD Cert.KernelErfIdeal.τ).loc Cert.KernelErfIdeal.main_arg1)) (m ((c.tc : Thread Cert.KernelErfIdeal.nD Cert.KernelErfIdeal.τ).loc Cert.KernelErfIdeal.main_arg2)) (m ((c.tc : Thread Cert.KernelErfIdeal.nD Cert.KernelErfIdeal.τ).loc Cert.KernelErfIdeal.main_arg3)) (m ((c.tc : Thread Cert.KernelErfIdeal.nD Cert.KernelErfIdeal.τ).loc Cert.KernelErfIdeal.main_arg4)) (m ((c.tc : Thread Cert.KernelErfIdeal.nD Cert.KernelErfIdeal.τ).loc Cert.KernelErfIdeal.main_arg5)) (m ((c.tc : Thread Cert.KernelErfIdeal.nD Cert.KernelErfIdeal.τ).loc Cert.KernelErfIdeal.main_arg6)) (m ((c.tc : Thread Cert.KernelErfIdeal.nD Cert.KernelErfIdeal.τ).loc Cert.KernelErfIdeal.main_arg7)) (m ((c.tc : Thread Cert.KernelErfIdeal.nD Cert.KernelErfIdeal.τ).loc Cert.KernelErfIdeal.main_arg8)) (m ((c.tc : Thread Cert.KernelErfIdeal.nD Cert.KernelErfIdeal.τ).loc Cert.KernelErfIdeal.main_arg9)) (m ((c.tc : Thread Cert.KernelErfIdeal.nD Cert.KernelErfIdeal.τ).loc Cert.KernelErfIdeal.main_arg10)) (m ((c.tc : Thread Cert.KernelErfIdeal.nD Cert.KernelErfIdeal.τ).loc Cert.KernelErfIdeal.main_arg11))).2.2.2.1 = (fun _ => 1#1)
    ∧ (Cert.Pre_drawn.fn (F := Ideal) (m ((c.tc : Thread Cert.KernelErfIdeal.nD Cert.KernelErfIdeal.τ).loc Cert.KernelErfIdeal.main_arg0)) (m ((c.tc : Thread Cert.KernelErfIdeal.nD Cert.KernelErfIdeal.τ).loc Cert.KernelErfIdeal.main_arg1)) (m ((c.tc : Thread Cert.KernelErfIdeal.nD Cert.KernelErfIdeal.τ).loc Cert.KernelErfIdeal.main_arg2)) (m ((c.tc : Thread Cert.KernelErfIdeal.nD Cert.KernelErfIdeal.τ).loc Cert.KernelErfIdeal.main_arg3)) (m ((c.tc : Thread Cert.KernelErfIdeal.nD Cert.KernelErfIdeal.τ).loc Cert.KernelErfIdeal.main_arg4)) (m ((c.tc : Thread Cert.KernelErfIdeal.nD Cert.KernelErfIdeal.τ).loc Cert.KernelErfIdeal.main_arg5)) (m ((c.tc : Thread Cert.KernelErfIdeal.nD Cert.KernelErfIdeal.τ).loc Cert.KernelErfIdeal.main_arg6)) (m ((c.tc : Thread Cert.KernelErfIdeal.nD Cert.KernelErfIdeal.τ).loc Cert.KernelErfIdeal.main_arg7)) (m ((c.tc : Thread Cert.KernelErfIdeal.nD Cert.KernelErfIdeal.τ).loc Cert.KernelErfIdeal.main_arg8)) (m ((c.tc : Thread Cert.KernelErfIdeal.nD Cert.KernelErfIdeal.τ).loc Cert.KernelErfIdeal.main_arg9)) (m ((c.tc : Thread Cert.KernelErfIdeal.nD Cert.KernelErfIdeal.τ).loc Cert.KernelErfIdeal.main_arg10)) (m ((c.tc : Thread Cert.KernelErfIdeal.nD Cert.KernelErfIdeal.τ).loc Cert.KernelErfIdeal.main_arg11))).2.2.2.2.1 = (fun _ => 1#1)
    ∧ (Cert.Pre_drawn.fn (F := Ideal) (m ((c.tc : Thread Cert.KernelErfIdeal.nD Cert.KernelErfIdeal.τ).loc Cert.KernelErfIdeal.main_arg0)) (m ((c.tc : Thread Cert.KernelErfIdeal.nD Cert.KernelErfIdeal.τ).loc Cert.KernelErfIdeal.main_arg1)) (m ((c.tc : Thread Cert.KernelErfIdeal.nD Cert.KernelErfIdeal.τ).loc Cert.KernelErfIdeal.main_arg2)) (m ((c.tc : Thread Cert.KernelErfIdeal.nD Cert.KernelErfIdeal.τ).loc Cert.KernelErfIdeal.main_arg3)) (m ((c.tc : Thread Cert.KernelErfIdeal.nD Cert.KernelErfIdeal.τ).loc Cert.KernelErfIdeal.main_arg4)) (m ((c.tc : Thread Cert.KernelErfIdeal.nD Cert.KernelErfIdeal.τ).loc Cert.KernelErfIdeal.main_arg5)) (m ((c.tc : Thread Cert.KernelErfIdeal.nD Cert.KernelErfIdeal.τ).loc Cert.KernelErfIdeal.main_arg6)) (m ((c.tc : Thread Cert.KernelErfIdeal.nD Cert.KernelErfIdeal.τ).loc Cert.KernelErfIdeal.main_arg7)) (m ((c.tc : Thread Cert.KernelErfIdeal.nD Cert.KernelErfIdeal.τ).loc Cert.KernelErfIdeal.main_arg8)) (m ((c.tc : Thread Cert.KernelErfIdeal.nD Cert.KernelErfIdeal.τ).loc Cert.KernelErfIdeal.main_arg9)) (m ((c.tc : Thread Cert.KernelErfIdeal.nD Cert.KernelErfIdeal.τ).loc Cert.KernelErfIdeal.main_arg10)) (m ((c.tc : Thread Cert.KernelErfIdeal.nD Cert.KernelErfIdeal.τ).loc Cert.KernelErfIdeal.main_arg11))).2.2.2.2.2.1 = (fun _ => 1#1)
    ∧ (Cert.Pre_drawn.fn (F := Ideal) (m ((c.tc : Thread Cert.KernelErfIdeal.nD Cert.KernelErfIdeal.τ).loc Cert.KernelErfIdeal.main_arg0)) (m ((c.tc : Thread Cert.KernelErfIdeal.nD Cert.KernelErfIdeal.τ).loc Cert.KernelErfIdeal.main_arg1)) (m ((c.tc : Thread Cert.KernelErfIdeal.nD Cert.KernelErfIdeal.τ).loc Cert.KernelErfIdeal.main_arg2)) (m ((c.tc : Thread Cert.KernelErfIdeal.nD Cert.KernelErfIdeal.τ).loc Cert.KernelErfIdeal.main_arg3)) (m ((c.tc : Thread Cert.KernelErfIdeal.nD Cert.KernelErfIdeal.τ).loc Cert.KernelErfIdeal.main_arg4)) (m ((c.tc : Thread Cert.KernelErfIdeal.nD Cert.KernelErfIdeal.τ).loc Cert.KernelErfIdeal.main_arg5)) (m ((c.tc : Thread Cert.KernelErfIdeal.nD Cert.KernelErfIdeal.τ).loc Cert.KernelErfIdeal.main_arg6)) (m ((c.tc : Thread Cert.KernelErfIdeal.nD Cert.KernelErfIdeal.τ).loc Cert.KernelErfIdeal.main_arg7)) (m ((c.tc : Thread Cert.KernelErfIdeal.nD Cert.KernelErfIdeal.τ).loc Cert.KernelErfIdeal.main_arg8)) (m ((c.tc : Thread Cert.KernelErfIdeal.nD Cert.KernelErfIdeal.τ).loc Cert.KernelErfIdeal.main_arg9)) (m ((c.tc : Thread Cert.KernelErfIdeal.nD Cert.KernelErfIdeal.τ).loc Cert.KernelErfIdeal.main_arg10)) (m ((c.tc : Thread Cert.KernelErfIdeal.nD Cert.KernelErfIdeal.τ).loc Cert.KernelErfIdeal.main_arg11))).2.2.2.2.2.2.1 = (fun _ => 1#1)
    ∧ (Cert.Pre_drawn.fn (F := Ideal) (m ((c.tc : Thread Cert.KernelErfIdeal.nD Cert.KernelErfIdeal.τ).loc Cert.KernelErfIdeal.main_arg0)) (m ((c.tc : Thread Cert.KernelErfIdeal.nD Cert.KernelErfIdeal.τ).loc Cert.KernelErfIdeal.main_arg1)) (m ((c.tc : Thread Cert.KernelErfIdeal.nD Cert.KernelErfIdeal.τ).loc Cert.KernelErfIdeal.main_arg2)) (m ((c.tc : Thread Cert.KernelErfIdeal.nD Cert.KernelErfIdeal.τ).loc Cert.KernelErfIdeal.main_arg3)) (m ((c.tc : Thread Cert.KernelErfIdeal.nD Cert.KernelErfIdeal.τ).loc Cert.KernelErfIdeal.main_arg4)) (m ((c.tc : Thread Cert.KernelErfIdeal.nD Cert.KernelErfIdeal.τ).loc Cert.KernelErfIdeal.main_arg5)) (m ((c.tc : Thread Cert.KernelErfIdeal.nD Cert.KernelErfIdeal.τ).loc Cert.KernelErfIdeal.main_arg6)) (m ((c.tc : Thread Cert.KernelErfIdeal.nD Cert.KernelErfIdeal.τ).loc Cert.KernelErfIdeal.main_arg7)) (m ((c.tc : Thread Cert.KernelErfIdeal.nD Cert.KernelErfIdeal.τ).loc Cert.KernelErfIdeal.main_arg8)) (m ((c.tc : Thread Cert.KernelErfIdeal.nD Cert.KernelErfIdeal.τ).loc Cert.KernelErfIdeal.main_arg9)) (m ((c.tc : Thread Cert.KernelErfIdeal.nD Cert.KernelErfIdeal.τ).loc Cert.KernelErfIdeal.main_arg10)) (m ((c.tc : Thread Cert.KernelErfIdeal.nD Cert.KernelErfIdeal.τ).loc Cert.KernelErfIdeal.main_arg11))).2.2.2.2.2.2.2.1 = (fun _ => 1#1)
    ∧ (Cert.Pre_drawn.fn (F := Ideal) (m ((c.tc : Thread Cert.KernelErfIdeal.nD Cert.KernelErfIdeal.τ).loc Cert.KernelErfIdeal.main_arg0)) (m ((c.tc : Thread Cert.KernelErfIdeal.nD Cert.KernelErfIdeal.τ).loc Cert.KernelErfIdeal.main_arg1)) (m ((c.tc : Thread Cert.KernelErfIdeal.nD Cert.KernelErfIdeal.τ).loc Cert.KernelErfIdeal.main_arg2)) (m ((c.tc : Thread Cert.KernelErfIdeal.nD Cert.KernelErfIdeal.τ).loc Cert.KernelErfIdeal.main_arg3)) (m ((c.tc : Thread Cert.KernelErfIdeal.nD Cert.KernelErfIdeal.τ).loc Cert.KernelErfIdeal.main_arg4)) (m ((c.tc : Thread Cert.KernelErfIdeal.nD Cert.KernelErfIdeal.τ).loc Cert.KernelErfIdeal.main_arg5)) (m ((c.tc : Thread Cert.KernelErfIdeal.nD Cert.KernelErfIdeal.τ).loc Cert.KernelErfIdeal.main_arg6)) (m ((c.tc : Thread Cert.KernelErfIdeal.nD Cert.KernelErfIdeal.τ).loc Cert.KernelErfIdeal.main_arg7)) (m ((c.tc : Thread Cert.KernelErfIdeal.nD Cert.KernelErfIdeal.τ).loc Cert.KernelErfIdeal.main_arg8)) (m ((c.tc : Thread Cert.KernelErfIdeal.nD Cert.KernelErfIdeal.τ).loc Cert.KernelErfIdeal.main_arg9)) (m ((c.tc : Thread Cert.KernelErfIdeal.nD Cert.KernelErfIdeal.τ).loc Cert.KernelErfIdeal.main_arg10)) (m ((c.tc : Thread Cert.KernelErfIdeal.nD Cert.KernelErfIdeal.τ).loc Cert.KernelErfIdeal.main_arg11))).2.2.2.2.2.2.2.2.1 = (fun _ => 1#1)
    ∧ (Cert.Pre_drawn.fn (F := Ideal) (m ((c.tc : Thread Cert.KernelErfIdeal.nD Cert.KernelErfIdeal.τ).loc Cert.KernelErfIdeal.main_arg0)) (m ((c.tc : Thread Cert.KernelErfIdeal.nD Cert.KernelErfIdeal.τ).loc Cert.KernelErfIdeal.main_arg1)) (m ((c.tc : Thread Cert.KernelErfIdeal.nD Cert.KernelErfIdeal.τ).loc Cert.KernelErfIdeal.main_arg2)) (m ((c.tc : Thread Cert.KernelErfIdeal.nD Cert.KernelErfIdeal.τ).loc Cert.KernelErfIdeal.main_arg3)) (m ((c.tc : Thread Cert.KernelErfIdeal.nD Cert.KernelErfIdeal.τ).loc Cert.KernelErfIdeal.main_arg4)) (m ((c.tc : Thread Cert.KernelErfIdeal.nD Cert.KernelErfIdeal.τ).loc Cert.KernelErfIdeal.main_arg5)) (m ((c.tc : Thread Cert.KernelErfIdeal.nD Cert.KernelErfIdeal.τ).loc Cert.KernelErfIdeal.main_arg6)) (m ((c.tc : Thread Cert.KernelErfIdeal.nD Cert.KernelErfIdeal.τ).loc Cert.KernelErfIdeal.main_arg7)) (m ((c.tc : Thread Cert.KernelErfIdeal.nD Cert.KernelErfIdeal.τ).loc Cert.KernelErfIdeal.main_arg8)) (m ((c.tc : Thread Cert.KernelErfIdeal.nD Cert.KernelErfIdeal.τ).loc Cert.KernelErfIdeal.main_arg9)) (m ((c.tc : Thread Cert.KernelErfIdeal.nD Cert.KernelErfIdeal.τ).loc Cert.KernelErfIdeal.main_arg10)) (m ((c.tc : Thread Cert.KernelErfIdeal.nD Cert.KernelErfIdeal.τ).loc Cert.KernelErfIdeal.main_arg11))).2.2.2.2.2.2.2.2.2.1 = (fun _ => 1#1)
    ∧ (Cert.Pre_drawn.fn (F := Ideal) (m ((c.tc : Thread Cert.KernelErfIdeal.nD Cert.KernelErfIdeal.τ).loc Cert.KernelErfIdeal.main_arg0)) (m ((c.tc : Thread Cert.KernelErfIdeal.nD Cert.KernelErfIdeal.τ).loc Cert.KernelErfIdeal.main_arg1)) (m ((c.tc : Thread Cert.KernelErfIdeal.nD Cert.KernelErfIdeal.τ).loc Cert.KernelErfIdeal.main_arg2)) (m ((c.tc : Thread Cert.KernelErfIdeal.nD Cert.KernelErfIdeal.τ).loc Cert.KernelErfIdeal.main_arg3)) (m ((c.tc : Thread Cert.KernelErfIdeal.nD Cert.KernelErfIdeal.τ).loc Cert.KernelErfIdeal.main_arg4)) (m ((c.tc : Thread Cert.KernelErfIdeal.nD Cert.KernelErfIdeal.τ).loc Cert.KernelErfIdeal.main_arg5)) (m ((c.tc : Thread Cert.KernelErfIdeal.nD Cert.KernelErfIdeal.τ).loc Cert.KernelErfIdeal.main_arg6)) (m ((c.tc : Thread Cert.KernelErfIdeal.nD Cert.KernelErfIdeal.τ).loc Cert.KernelErfIdeal.main_arg7)) (m ((c.tc : Thread Cert.KernelErfIdeal.nD Cert.KernelErfIdeal.τ).loc Cert.KernelErfIdeal.main_arg8)) (m ((c.tc : Thread Cert.KernelErfIdeal.nD Cert.KernelErfIdeal.τ).loc Cert.KernelErfIdeal.main_arg9)) (m ((c.tc : Thread Cert.KernelErfIdeal.nD Cert.KernelErfIdeal.τ).loc Cert.KernelErfIdeal.main_arg10)) (m ((c.tc : Thread Cert.KernelErfIdeal.nD Cert.KernelErfIdeal.τ).loc Cert.KernelErfIdeal.main_arg11))).2.2.2.2.2.2.2.2.2.2.1 = (fun _ => 1#1)
    ∧ (Cert.Pre_drawn.fn (F := Ideal) (m ((c.tc : Thread Cert.KernelErfIdeal.nD Cert.KernelErfIdeal.τ).loc Cert.KernelErfIdeal.main_arg0)) (m ((c.tc : Thread Cert.KernelErfIdeal.nD Cert.KernelErfIdeal.τ).loc Cert.KernelErfIdeal.main_arg1)) (m ((c.tc : Thread Cert.KernelErfIdeal.nD Cert.KernelErfIdeal.τ).loc Cert.KernelErfIdeal.main_arg2)) (m ((c.tc : Thread Cert.KernelErfIdeal.nD Cert.KernelErfIdeal.τ).loc Cert.KernelErfIdeal.main_arg3)) (m ((c.tc : Thread Cert.KernelErfIdeal.nD Cert.KernelErfIdeal.τ).loc Cert.KernelErfIdeal.main_arg4)) (m ((c.tc : Thread Cert.KernelErfIdeal.nD Cert.KernelErfIdeal.τ).loc Cert.KernelErfIdeal.main_arg5)) (m ((c.tc : Thread Cert.KernelErfIdeal.nD Cert.KernelErfIdeal.τ).loc Cert.KernelErfIdeal.main_arg6)) (m ((c.tc : Thread Cert.KernelErfIdeal.nD Cert.KernelErfIdeal.τ).loc Cert.KernelErfIdeal.main_arg7)) (m ((c.tc : Thread Cert.KernelErfIdeal.nD Cert.KernelErfIdeal.τ).loc Cert.KernelErfIdeal.main_arg8)) (m ((c.tc : Thread Cert.KernelErfIdeal.nD Cert.KernelErfIdeal.τ).loc Cert.KernelErfIdeal.main_arg9)) (m ((c.tc : Thread Cert.KernelErfIdeal.nD Cert.KernelErfIdeal.τ).loc Cert.KernelErfIdeal.main_arg10)) (m ((c.tc : Thread Cert.KernelErfIdeal.nD Cert.KernelErfIdeal.τ).loc Cert.KernelErfIdeal.main_arg11))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2 = (fun _ => 1#1)

def Pre_ReferenceRationalIdeal (m : (ℓ : Loc Cert.ReferenceRationalIdeal.nD Cert.ReferenceRationalIdeal.τ Cert.ReferenceRationalIdeal.sig) → Buf (Elt Ideal) ℓ) : Prop :=
  True

def Pre_ReferenceRationalIdeal_drawn [hPre_drawn : Cert.Pre_drawn.Facts] (m : (ℓ : Loc Cert.ReferenceRationalIdeal.nD Cert.ReferenceRationalIdeal.τ Cert.ReferenceRationalIdeal.sig) → Buf (Elt Ideal) ℓ) : Prop :=
  ∀ c : Dev Cert.ReferenceRationalIdeal.nD,
    (Cert.Pre_drawn.fn (F := Ideal) (m ((c.tc : Thread Cert.ReferenceRationalIdeal.nD Cert.ReferenceRationalIdeal.τ).loc Cert.ReferenceRationalIdeal.main_arg0)) (m ((c.tc : Thread Cert.ReferenceRationalIdeal.nD Cert.ReferenceRationalIdeal.τ).loc Cert.ReferenceRationalIdeal.main_arg1)) (m ((c.tc : Thread Cert.ReferenceRationalIdeal.nD Cert.ReferenceRationalIdeal.τ).loc Cert.ReferenceRationalIdeal.main_arg2)) (m ((c.tc : Thread Cert.ReferenceRationalIdeal.nD Cert.ReferenceRationalIdeal.τ).loc Cert.ReferenceRationalIdeal.main_arg3)) (m ((c.tc : Thread Cert.ReferenceRationalIdeal.nD Cert.ReferenceRationalIdeal.τ).loc Cert.ReferenceRationalIdeal.main_arg4)) (m ((c.tc : Thread Cert.ReferenceRationalIdeal.nD Cert.ReferenceRationalIdeal.τ).loc Cert.ReferenceRationalIdeal.main_arg5)) (m ((c.tc : Thread Cert.ReferenceRationalIdeal.nD Cert.ReferenceRationalIdeal.τ).loc Cert.ReferenceRationalIdeal.main_arg6)) (m ((c.tc : Thread Cert.ReferenceRationalIdeal.nD Cert.ReferenceRationalIdeal.τ).loc Cert.ReferenceRationalIdeal.main_arg7)) (m ((c.tc : Thread Cert.ReferenceRationalIdeal.nD Cert.ReferenceRationalIdeal.τ).loc Cert.ReferenceRationalIdeal.main_arg8)) (m ((c.tc : Thread Cert.ReferenceRationalIdeal.nD Cert.ReferenceRationalIdeal.τ).loc Cert.ReferenceRationalIdeal.main_arg9)) (m ((c.tc : Thread Cert.ReferenceRationalIdeal.nD Cert.ReferenceRationalIdeal.τ).loc Cert.ReferenceRationalIdeal.main_arg10)) (m ((c.tc : Thread Cert.ReferenceRationalIdeal.nD Cert.ReferenceRationalIdeal.τ).loc Cert.ReferenceRationalIdeal.main_arg11))).1 = (fun _ => 1#1)
    ∧ (Cert.Pre_drawn.fn (F := Ideal) (m ((c.tc : Thread Cert.ReferenceRationalIdeal.nD Cert.ReferenceRationalIdeal.τ).loc Cert.ReferenceRationalIdeal.main_arg0)) (m ((c.tc : Thread Cert.ReferenceRationalIdeal.nD Cert.ReferenceRationalIdeal.τ).loc Cert.ReferenceRationalIdeal.main_arg1)) (m ((c.tc : Thread Cert.ReferenceRationalIdeal.nD Cert.ReferenceRationalIdeal.τ).loc Cert.ReferenceRationalIdeal.main_arg2)) (m ((c.tc : Thread Cert.ReferenceRationalIdeal.nD Cert.ReferenceRationalIdeal.τ).loc Cert.ReferenceRationalIdeal.main_arg3)) (m ((c.tc : Thread Cert.ReferenceRationalIdeal.nD Cert.ReferenceRationalIdeal.τ).loc Cert.ReferenceRationalIdeal.main_arg4)) (m ((c.tc : Thread Cert.ReferenceRationalIdeal.nD Cert.ReferenceRationalIdeal.τ).loc Cert.ReferenceRationalIdeal.main_arg5)) (m ((c.tc : Thread Cert.ReferenceRationalIdeal.nD Cert.ReferenceRationalIdeal.τ).loc Cert.ReferenceRationalIdeal.main_arg6)) (m ((c.tc : Thread Cert.ReferenceRationalIdeal.nD Cert.ReferenceRationalIdeal.τ).loc Cert.ReferenceRationalIdeal.main_arg7)) (m ((c.tc : Thread Cert.ReferenceRationalIdeal.nD Cert.ReferenceRationalIdeal.τ).loc Cert.ReferenceRationalIdeal.main_arg8)) (m ((c.tc : Thread Cert.ReferenceRationalIdeal.nD Cert.ReferenceRationalIdeal.τ).loc Cert.ReferenceRationalIdeal.main_arg9)) (m ((c.tc : Thread Cert.ReferenceRationalIdeal.nD Cert.ReferenceRationalIdeal.τ).loc Cert.ReferenceRationalIdeal.main_arg10)) (m ((c.tc : Thread Cert.ReferenceRationalIdeal.nD Cert.ReferenceRationalIdeal.τ).loc Cert.ReferenceRationalIdeal.main_arg11))).2.1 = (fun _ => 1#1)
    ∧ (Cert.Pre_drawn.fn (F := Ideal) (m ((c.tc : Thread Cert.ReferenceRationalIdeal.nD Cert.ReferenceRationalIdeal.τ).loc Cert.ReferenceRationalIdeal.main_arg0)) (m ((c.tc : Thread Cert.ReferenceRationalIdeal.nD Cert.ReferenceRationalIdeal.τ).loc Cert.ReferenceRationalIdeal.main_arg1)) (m ((c.tc : Thread Cert.ReferenceRationalIdeal.nD Cert.ReferenceRationalIdeal.τ).loc Cert.ReferenceRationalIdeal.main_arg2)) (m ((c.tc : Thread Cert.ReferenceRationalIdeal.nD Cert.ReferenceRationalIdeal.τ).loc Cert.ReferenceRationalIdeal.main_arg3)) (m ((c.tc : Thread Cert.ReferenceRationalIdeal.nD Cert.ReferenceRationalIdeal.τ).loc Cert.ReferenceRationalIdeal.main_arg4)) (m ((c.tc : Thread Cert.ReferenceRationalIdeal.nD Cert.ReferenceRationalIdeal.τ).loc Cert.ReferenceRationalIdeal.main_arg5)) (m ((c.tc : Thread Cert.ReferenceRationalIdeal.nD Cert.ReferenceRationalIdeal.τ).loc Cert.ReferenceRationalIdeal.main_arg6)) (m ((c.tc : Thread Cert.ReferenceRationalIdeal.nD Cert.ReferenceRationalIdeal.τ).loc Cert.ReferenceRationalIdeal.main_arg7)) (m ((c.tc : Thread Cert.ReferenceRationalIdeal.nD Cert.ReferenceRationalIdeal.τ).loc Cert.ReferenceRationalIdeal.main_arg8)) (m ((c.tc : Thread Cert.ReferenceRationalIdeal.nD Cert.ReferenceRationalIdeal.τ).loc Cert.ReferenceRationalIdeal.main_arg9)) (m ((c.tc : Thread Cert.ReferenceRationalIdeal.nD Cert.ReferenceRationalIdeal.τ).loc Cert.ReferenceRationalIdeal.main_arg10)) (m ((c.tc : Thread Cert.ReferenceRationalIdeal.nD Cert.ReferenceRationalIdeal.τ).loc Cert.ReferenceRationalIdeal.main_arg11))).2.2.1 = (fun _ => 1#1)
    ∧ (Cert.Pre_drawn.fn (F := Ideal) (m ((c.tc : Thread Cert.ReferenceRationalIdeal.nD Cert.ReferenceRationalIdeal.τ).loc Cert.ReferenceRationalIdeal.main_arg0)) (m ((c.tc : Thread Cert.ReferenceRationalIdeal.nD Cert.ReferenceRationalIdeal.τ).loc Cert.ReferenceRationalIdeal.main_arg1)) (m ((c.tc : Thread Cert.ReferenceRationalIdeal.nD Cert.ReferenceRationalIdeal.τ).loc Cert.ReferenceRationalIdeal.main_arg2)) (m ((c.tc : Thread Cert.ReferenceRationalIdeal.nD Cert.ReferenceRationalIdeal.τ).loc Cert.ReferenceRationalIdeal.main_arg3)) (m ((c.tc : Thread Cert.ReferenceRationalIdeal.nD Cert.ReferenceRationalIdeal.τ).loc Cert.ReferenceRationalIdeal.main_arg4)) (m ((c.tc : Thread Cert.ReferenceRationalIdeal.nD Cert.ReferenceRationalIdeal.τ).loc Cert.ReferenceRationalIdeal.main_arg5)) (m ((c.tc : Thread Cert.ReferenceRationalIdeal.nD Cert.ReferenceRationalIdeal.τ).loc Cert.ReferenceRationalIdeal.main_arg6)) (m ((c.tc : Thread Cert.ReferenceRationalIdeal.nD Cert.ReferenceRationalIdeal.τ).loc Cert.ReferenceRationalIdeal.main_arg7)) (m ((c.tc : Thread Cert.ReferenceRationalIdeal.nD Cert.ReferenceRationalIdeal.τ).loc Cert.ReferenceRationalIdeal.main_arg8)) (m ((c.tc : Thread Cert.ReferenceRationalIdeal.nD Cert.ReferenceRationalIdeal.τ).loc Cert.ReferenceRationalIdeal.main_arg9)) (m ((c.tc : Thread Cert.ReferenceRationalIdeal.nD Cert.ReferenceRationalIdeal.τ).loc Cert.ReferenceRationalIdeal.main_arg10)) (m ((c.tc : Thread Cert.ReferenceRationalIdeal.nD Cert.ReferenceRationalIdeal.τ).loc Cert.ReferenceRationalIdeal.main_arg11))).2.2.2.1 = (fun _ => 1#1)
    ∧ (Cert.Pre_drawn.fn (F := Ideal) (m ((c.tc : Thread Cert.ReferenceRationalIdeal.nD Cert.ReferenceRationalIdeal.τ).loc Cert.ReferenceRationalIdeal.main_arg0)) (m ((c.tc : Thread Cert.ReferenceRationalIdeal.nD Cert.ReferenceRationalIdeal.τ).loc Cert.ReferenceRationalIdeal.main_arg1)) (m ((c.tc : Thread Cert.ReferenceRationalIdeal.nD Cert.ReferenceRationalIdeal.τ).loc Cert.ReferenceRationalIdeal.main_arg2)) (m ((c.tc : Thread Cert.ReferenceRationalIdeal.nD Cert.ReferenceRationalIdeal.τ).loc Cert.ReferenceRationalIdeal.main_arg3)) (m ((c.tc : Thread Cert.ReferenceRationalIdeal.nD Cert.ReferenceRationalIdeal.τ).loc Cert.ReferenceRationalIdeal.main_arg4)) (m ((c.tc : Thread Cert.ReferenceRationalIdeal.nD Cert.ReferenceRationalIdeal.τ).loc Cert.ReferenceRationalIdeal.main_arg5)) (m ((c.tc : Thread Cert.ReferenceRationalIdeal.nD Cert.ReferenceRationalIdeal.τ).loc Cert.ReferenceRationalIdeal.main_arg6)) (m ((c.tc : Thread Cert.ReferenceRationalIdeal.nD Cert.ReferenceRationalIdeal.τ).loc Cert.ReferenceRationalIdeal.main_arg7)) (m ((c.tc : Thread Cert.ReferenceRationalIdeal.nD Cert.ReferenceRationalIdeal.τ).loc Cert.ReferenceRationalIdeal.main_arg8)) (m ((c.tc : Thread Cert.ReferenceRationalIdeal.nD Cert.ReferenceRationalIdeal.τ).loc Cert.ReferenceRationalIdeal.main_arg9)) (m ((c.tc : Thread Cert.ReferenceRationalIdeal.nD Cert.ReferenceRationalIdeal.τ).loc Cert.ReferenceRationalIdeal.main_arg10)) (m ((c.tc : Thread Cert.ReferenceRationalIdeal.nD Cert.ReferenceRationalIdeal.τ).loc Cert.ReferenceRationalIdeal.main_arg11))).2.2.2.2.1 = (fun _ => 1#1)
    ∧ (Cert.Pre_drawn.fn (F := Ideal) (m ((c.tc : Thread Cert.ReferenceRationalIdeal.nD Cert.ReferenceRationalIdeal.τ).loc Cert.ReferenceRationalIdeal.main_arg0)) (m ((c.tc : Thread Cert.ReferenceRationalIdeal.nD Cert.ReferenceRationalIdeal.τ).loc Cert.ReferenceRationalIdeal.main_arg1)) (m ((c.tc : Thread Cert.ReferenceRationalIdeal.nD Cert.ReferenceRationalIdeal.τ).loc Cert.ReferenceRationalIdeal.main_arg2)) (m ((c.tc : Thread Cert.ReferenceRationalIdeal.nD Cert.ReferenceRationalIdeal.τ).loc Cert.ReferenceRationalIdeal.main_arg3)) (m ((c.tc : Thread Cert.ReferenceRationalIdeal.nD Cert.ReferenceRationalIdeal.τ).loc Cert.ReferenceRationalIdeal.main_arg4)) (m ((c.tc : Thread Cert.ReferenceRationalIdeal.nD Cert.ReferenceRationalIdeal.τ).loc Cert.ReferenceRationalIdeal.main_arg5)) (m ((c.tc : Thread Cert.ReferenceRationalIdeal.nD Cert.ReferenceRationalIdeal.τ).loc Cert.ReferenceRationalIdeal.main_arg6)) (m ((c.tc : Thread Cert.ReferenceRationalIdeal.nD Cert.ReferenceRationalIdeal.τ).loc Cert.ReferenceRationalIdeal.main_arg7)) (m ((c.tc : Thread Cert.ReferenceRationalIdeal.nD Cert.ReferenceRationalIdeal.τ).loc Cert.ReferenceRationalIdeal.main_arg8)) (m ((c.tc : Thread Cert.ReferenceRationalIdeal.nD Cert.ReferenceRationalIdeal.τ).loc Cert.ReferenceRationalIdeal.main_arg9)) (m ((c.tc : Thread Cert.ReferenceRationalIdeal.nD Cert.ReferenceRationalIdeal.τ).loc Cert.ReferenceRationalIdeal.main_arg10)) (m ((c.tc : Thread Cert.ReferenceRationalIdeal.nD Cert.ReferenceRationalIdeal.τ).loc Cert.ReferenceRationalIdeal.main_arg11))).2.2.2.2.2.1 = (fun _ => 1#1)
    ∧ (Cert.Pre_drawn.fn (F := Ideal) (m ((c.tc : Thread Cert.ReferenceRationalIdeal.nD Cert.ReferenceRationalIdeal.τ).loc Cert.ReferenceRationalIdeal.main_arg0)) (m ((c.tc : Thread Cert.ReferenceRationalIdeal.nD Cert.ReferenceRationalIdeal.τ).loc Cert.ReferenceRationalIdeal.main_arg1)) (m ((c.tc : Thread Cert.ReferenceRationalIdeal.nD Cert.ReferenceRationalIdeal.τ).loc Cert.ReferenceRationalIdeal.main_arg2)) (m ((c.tc : Thread Cert.ReferenceRationalIdeal.nD Cert.ReferenceRationalIdeal.τ).loc Cert.ReferenceRationalIdeal.main_arg3)) (m ((c.tc : Thread Cert.ReferenceRationalIdeal.nD Cert.ReferenceRationalIdeal.τ).loc Cert.ReferenceRationalIdeal.main_arg4)) (m ((c.tc : Thread Cert.ReferenceRationalIdeal.nD Cert.ReferenceRationalIdeal.τ).loc Cert.ReferenceRationalIdeal.main_arg5)) (m ((c.tc : Thread Cert.ReferenceRationalIdeal.nD Cert.ReferenceRationalIdeal.τ).loc Cert.ReferenceRationalIdeal.main_arg6)) (m ((c.tc : Thread Cert.ReferenceRationalIdeal.nD Cert.ReferenceRationalIdeal.τ).loc Cert.ReferenceRationalIdeal.main_arg7)) (m ((c.tc : Thread Cert.ReferenceRationalIdeal.nD Cert.ReferenceRationalIdeal.τ).loc Cert.ReferenceRationalIdeal.main_arg8)) (m ((c.tc : Thread Cert.ReferenceRationalIdeal.nD Cert.ReferenceRationalIdeal.τ).loc Cert.ReferenceRationalIdeal.main_arg9)) (m ((c.tc : Thread Cert.ReferenceRationalIdeal.nD Cert.ReferenceRationalIdeal.τ).loc Cert.ReferenceRationalIdeal.main_arg10)) (m ((c.tc : Thread Cert.ReferenceRationalIdeal.nD Cert.ReferenceRationalIdeal.τ).loc Cert.ReferenceRationalIdeal.main_arg11))).2.2.2.2.2.2.1 = (fun _ => 1#1)
    ∧ (Cert.Pre_drawn.fn (F := Ideal) (m ((c.tc : Thread Cert.ReferenceRationalIdeal.nD Cert.ReferenceRationalIdeal.τ).loc Cert.ReferenceRationalIdeal.main_arg0)) (m ((c.tc : Thread Cert.ReferenceRationalIdeal.nD Cert.ReferenceRationalIdeal.τ).loc Cert.ReferenceRationalIdeal.main_arg1)) (m ((c.tc : Thread Cert.ReferenceRationalIdeal.nD Cert.ReferenceRationalIdeal.τ).loc Cert.ReferenceRationalIdeal.main_arg2)) (m ((c.tc : Thread Cert.ReferenceRationalIdeal.nD Cert.ReferenceRationalIdeal.τ).loc Cert.ReferenceRationalIdeal.main_arg3)) (m ((c.tc : Thread Cert.ReferenceRationalIdeal.nD Cert.ReferenceRationalIdeal.τ).loc Cert.ReferenceRationalIdeal.main_arg4)) (m ((c.tc : Thread Cert.ReferenceRationalIdeal.nD Cert.ReferenceRationalIdeal.τ).loc Cert.ReferenceRationalIdeal.main_arg5)) (m ((c.tc : Thread Cert.ReferenceRationalIdeal.nD Cert.ReferenceRationalIdeal.τ).loc Cert.ReferenceRationalIdeal.main_arg6)) (m ((c.tc : Thread Cert.ReferenceRationalIdeal.nD Cert.ReferenceRationalIdeal.τ).loc Cert.ReferenceRationalIdeal.main_arg7)) (m ((c.tc : Thread Cert.ReferenceRationalIdeal.nD Cert.ReferenceRationalIdeal.τ).loc Cert.ReferenceRationalIdeal.main_arg8)) (m ((c.tc : Thread Cert.ReferenceRationalIdeal.nD Cert.ReferenceRationalIdeal.τ).loc Cert.ReferenceRationalIdeal.main_arg9)) (m ((c.tc : Thread Cert.ReferenceRationalIdeal.nD Cert.ReferenceRationalIdeal.τ).loc Cert.ReferenceRationalIdeal.main_arg10)) (m ((c.tc : Thread Cert.ReferenceRationalIdeal.nD Cert.ReferenceRationalIdeal.τ).loc Cert.ReferenceRationalIdeal.main_arg11))).2.2.2.2.2.2.2.1 = (fun _ => 1#1)
    ∧ (Cert.Pre_drawn.fn (F := Ideal) (m ((c.tc : Thread Cert.ReferenceRationalIdeal.nD Cert.ReferenceRationalIdeal.τ).loc Cert.ReferenceRationalIdeal.main_arg0)) (m ((c.tc : Thread Cert.ReferenceRationalIdeal.nD Cert.ReferenceRationalIdeal.τ).loc Cert.ReferenceRationalIdeal.main_arg1)) (m ((c.tc : Thread Cert.ReferenceRationalIdeal.nD Cert.ReferenceRationalIdeal.τ).loc Cert.ReferenceRationalIdeal.main_arg2)) (m ((c.tc : Thread Cert.ReferenceRationalIdeal.nD Cert.ReferenceRationalIdeal.τ).loc Cert.ReferenceRationalIdeal.main_arg3)) (m ((c.tc : Thread Cert.ReferenceRationalIdeal.nD Cert.ReferenceRationalIdeal.τ).loc Cert.ReferenceRationalIdeal.main_arg4)) (m ((c.tc : Thread Cert.ReferenceRationalIdeal.nD Cert.ReferenceRationalIdeal.τ).loc Cert.ReferenceRationalIdeal.main_arg5)) (m ((c.tc : Thread Cert.ReferenceRationalIdeal.nD Cert.ReferenceRationalIdeal.τ).loc Cert.ReferenceRationalIdeal.main_arg6)) (m ((c.tc : Thread Cert.ReferenceRationalIdeal.nD Cert.ReferenceRationalIdeal.τ).loc Cert.ReferenceRationalIdeal.main_arg7)) (m ((c.tc : Thread Cert.ReferenceRationalIdeal.nD Cert.ReferenceRationalIdeal.τ).loc Cert.ReferenceRationalIdeal.main_arg8)) (m ((c.tc : Thread Cert.ReferenceRationalIdeal.nD Cert.ReferenceRationalIdeal.τ).loc Cert.ReferenceRationalIdeal.main_arg9)) (m ((c.tc : Thread Cert.ReferenceRationalIdeal.nD Cert.ReferenceRationalIdeal.τ).loc Cert.ReferenceRationalIdeal.main_arg10)) (m ((c.tc : Thread Cert.ReferenceRationalIdeal.nD Cert.ReferenceRationalIdeal.τ).loc Cert.ReferenceRationalIdeal.main_arg11))).2.2.2.2.2.2.2.2.1 = (fun _ => 1#1)
    ∧ (Cert.Pre_drawn.fn (F := Ideal) (m ((c.tc : Thread Cert.ReferenceRationalIdeal.nD Cert.ReferenceRationalIdeal.τ).loc Cert.ReferenceRationalIdeal.main_arg0)) (m ((c.tc : Thread Cert.ReferenceRationalIdeal.nD Cert.ReferenceRationalIdeal.τ).loc Cert.ReferenceRationalIdeal.main_arg1)) (m ((c.tc : Thread Cert.ReferenceRationalIdeal.nD Cert.ReferenceRationalIdeal.τ).loc Cert.ReferenceRationalIdeal.main_arg2)) (m ((c.tc : Thread Cert.ReferenceRationalIdeal.nD Cert.ReferenceRationalIdeal.τ).loc Cert.ReferenceRationalIdeal.main_arg3)) (m ((c.tc : Thread Cert.ReferenceRationalIdeal.nD Cert.ReferenceRationalIdeal.τ).loc Cert.ReferenceRationalIdeal.main_arg4)) (m ((c.tc : Thread Cert.ReferenceRationalIdeal.nD Cert.ReferenceRationalIdeal.τ).loc Cert.ReferenceRationalIdeal.main_arg5)) (m ((c.tc : Thread Cert.ReferenceRationalIdeal.nD Cert.ReferenceRationalIdeal.τ).loc Cert.ReferenceRationalIdeal.main_arg6)) (m ((c.tc : Thread Cert.ReferenceRationalIdeal.nD Cert.ReferenceRationalIdeal.τ).loc Cert.ReferenceRationalIdeal.main_arg7)) (m ((c.tc : Thread Cert.ReferenceRationalIdeal.nD Cert.ReferenceRationalIdeal.τ).loc Cert.ReferenceRationalIdeal.main_arg8)) (m ((c.tc : Thread Cert.ReferenceRationalIdeal.nD Cert.ReferenceRationalIdeal.τ).loc Cert.ReferenceRationalIdeal.main_arg9)) (m ((c.tc : Thread Cert.ReferenceRationalIdeal.nD Cert.ReferenceRationalIdeal.τ).loc Cert.ReferenceRationalIdeal.main_arg10)) (m ((c.tc : Thread Cert.ReferenceRationalIdeal.nD Cert.ReferenceRationalIdeal.τ).loc Cert.ReferenceRationalIdeal.main_arg11))).2.2.2.2.2.2.2.2.2.1 = (fun _ => 1#1)
    ∧ (Cert.Pre_drawn.fn (F := Ideal) (m ((c.tc : Thread Cert.ReferenceRationalIdeal.nD Cert.ReferenceRationalIdeal.τ).loc Cert.ReferenceRationalIdeal.main_arg0)) (m ((c.tc : Thread Cert.ReferenceRationalIdeal.nD Cert.ReferenceRationalIdeal.τ).loc Cert.ReferenceRationalIdeal.main_arg1)) (m ((c.tc : Thread Cert.ReferenceRationalIdeal.nD Cert.ReferenceRationalIdeal.τ).loc Cert.ReferenceRationalIdeal.main_arg2)) (m ((c.tc : Thread Cert.ReferenceRationalIdeal.nD Cert.ReferenceRationalIdeal.τ).loc Cert.ReferenceRationalIdeal.main_arg3)) (m ((c.tc : Thread Cert.ReferenceRationalIdeal.nD Cert.ReferenceRationalIdeal.τ).loc Cert.ReferenceRationalIdeal.main_arg4)) (m ((c.tc : Thread Cert.ReferenceRationalIdeal.nD Cert.ReferenceRationalIdeal.τ).loc Cert.ReferenceRationalIdeal.main_arg5)) (m ((c.tc : Thread Cert.ReferenceRationalIdeal.nD Cert.ReferenceRationalIdeal.τ).loc Cert.ReferenceRationalIdeal.main_arg6)) (m ((c.tc : Thread Cert.ReferenceRationalIdeal.nD Cert.ReferenceRationalIdeal.τ).loc Cert.ReferenceRationalIdeal.main_arg7)) (m ((c.tc : Thread Cert.ReferenceRationalIdeal.nD Cert.ReferenceRationalIdeal.τ).loc Cert.ReferenceRationalIdeal.main_arg8)) (m ((c.tc : Thread Cert.ReferenceRationalIdeal.nD Cert.ReferenceRationalIdeal.τ).loc Cert.ReferenceRationalIdeal.main_arg9)) (m ((c.tc : Thread Cert.ReferenceRationalIdeal.nD Cert.ReferenceRationalIdeal.τ).loc Cert.ReferenceRationalIdeal.main_arg10)) (m ((c.tc : Thread Cert.ReferenceRationalIdeal.nD Cert.ReferenceRationalIdeal.τ).loc Cert.ReferenceRationalIdeal.main_arg11))).2.2.2.2.2.2.2.2.2.2.1 = (fun _ => 1#1)
    ∧ (Cert.Pre_drawn.fn (F := Ideal) (m ((c.tc : Thread Cert.ReferenceRationalIdeal.nD Cert.ReferenceRationalIdeal.τ).loc Cert.ReferenceRationalIdeal.main_arg0)) (m ((c.tc : Thread Cert.ReferenceRationalIdeal.nD Cert.ReferenceRationalIdeal.τ).loc Cert.ReferenceRationalIdeal.main_arg1)) (m ((c.tc : Thread Cert.ReferenceRationalIdeal.nD Cert.ReferenceRationalIdeal.τ).loc Cert.ReferenceRationalIdeal.main_arg2)) (m ((c.tc : Thread Cert.ReferenceRationalIdeal.nD Cert.ReferenceRationalIdeal.τ).loc Cert.ReferenceRationalIdeal.main_arg3)) (m ((c.tc : Thread Cert.ReferenceRationalIdeal.nD Cert.ReferenceRationalIdeal.τ).loc Cert.ReferenceRationalIdeal.main_arg4)) (m ((c.tc : Thread Cert.ReferenceRationalIdeal.nD Cert.ReferenceRationalIdeal.τ).loc Cert.ReferenceRationalIdeal.main_arg5)) (m ((c.tc : Thread Cert.ReferenceRationalIdeal.nD Cert.ReferenceRationalIdeal.τ).loc Cert.ReferenceRationalIdeal.main_arg6)) (m ((c.tc : Thread Cert.ReferenceRationalIdeal.nD Cert.ReferenceRationalIdeal.τ).loc Cert.ReferenceRationalIdeal.main_arg7)) (m ((c.tc : Thread Cert.ReferenceRationalIdeal.nD Cert.ReferenceRationalIdeal.τ).loc Cert.ReferenceRationalIdeal.main_arg8)) (m ((c.tc : Thread Cert.ReferenceRationalIdeal.nD Cert.ReferenceRationalIdeal.τ).loc Cert.ReferenceRationalIdeal.main_arg9)) (m ((c.tc : Thread Cert.ReferenceRationalIdeal.nD Cert.ReferenceRationalIdeal.τ).loc Cert.ReferenceRationalIdeal.main_arg10)) (m ((c.tc : Thread Cert.ReferenceRationalIdeal.nD Cert.ReferenceRationalIdeal.τ).loc Cert.ReferenceRationalIdeal.main_arg11))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelErf [hKernelErf : Cert.KernelErf.Facts] : Prop :=
  ∀ (m : (ℓ : Loc Cert.KernelErf.nD Cert.KernelErf.τ Cert.KernelErf.sig) → Buf (Elt Bits) ℓ) (g : Dev Cert.KernelErf.nD → PrngReg), Pre_KernelErf m →
    θ_run (Cert.KernelErf.defs (F := Bits)) (onTc (τ := Cert.KernelErf.τ) (Cert.KernelErf.main (F := Bits))) ⟨m, fun _ => 0, g⟩ (fun r => (∀ c : Dev Cert.KernelErf.nD,
      r.2.mem ((c.tc : Thread Cert.KernelErf.nD Cert.KernelErf.τ).loc Cert.KernelErf.main_arg0) = m ((c.tc : Thread Cert.KernelErf.nD Cert.KernelErf.τ).loc Cert.KernelErf.main_arg0)
      ∧ r.2.mem ((c.tc : Thread Cert.KernelErf.nD Cert.KernelErf.τ).loc Cert.KernelErf.main_arg1) = m ((c.tc : Thread Cert.KernelErf.nD Cert.KernelErf.τ).loc Cert.KernelErf.main_arg1)
      ∧ r.2.mem ((c.tc : Thread Cert.KernelErf.nD Cert.KernelErf.τ).loc Cert.KernelErf.main_arg2) = m ((c.tc : Thread Cert.KernelErf.nD Cert.KernelErf.τ).loc Cert.KernelErf.main_arg2)
      ∧ r.2.mem ((c.tc : Thread Cert.KernelErf.nD Cert.KernelErf.τ).loc Cert.KernelErf.main_arg3) = m ((c.tc : Thread Cert.KernelErf.nD Cert.KernelErf.τ).loc Cert.KernelErf.main_arg3)
      ∧ r.2.mem ((c.tc : Thread Cert.KernelErf.nD Cert.KernelErf.τ).loc Cert.KernelErf.main_arg4) = m ((c.tc : Thread Cert.KernelErf.nD Cert.KernelErf.τ).loc Cert.KernelErf.main_arg4)
      ∧ r.2.mem ((c.tc : Thread Cert.KernelErf.nD Cert.KernelErf.τ).loc Cert.KernelErf.main_arg5) = m ((c.tc : Thread Cert.KernelErf.nD Cert.KernelErf.τ).loc Cert.KernelErf.main_arg5)
      ∧ r.2.mem ((c.tc : Thread Cert.KernelErf.nD Cert.KernelErf.τ).loc Cert.KernelErf.main_arg6) = m ((c.tc : Thread Cert.KernelErf.nD Cert.KernelErf.τ).loc Cert.KernelErf.main_arg6)
      ∧ r.2.mem ((c.tc : Thread Cert.KernelErf.nD Cert.KernelErf.τ).loc Cert.KernelErf.main_arg7) = m ((c.tc : Thread Cert.KernelErf.nD Cert.KernelErf.τ).loc Cert.KernelErf.main_arg7)
      ∧ r.2.mem ((c.tc : Thread Cert.KernelErf.nD Cert.KernelErf.τ).loc Cert.KernelErf.main_arg8) = m ((c.tc : Thread Cert.KernelErf.nD Cert.KernelErf.τ).loc Cert.KernelErf.main_arg8)
      ∧ r.2.mem ((c.tc : Thread Cert.KernelErf.nD Cert.KernelErf.τ).loc Cert.KernelErf.main_arg9) = m ((c.tc : Thread Cert.KernelErf.nD Cert.KernelErf.τ).loc Cert.KernelErf.main_arg9)
      ∧ r.2.mem ((c.tc : Thread Cert.KernelErf.nD Cert.KernelErf.τ).loc Cert.KernelErf.main_arg10) = m ((c.tc : Thread Cert.KernelErf.nD Cert.KernelErf.τ).loc Cert.KernelErf.main_arg10)
      ∧ r.2.mem ((c.tc : Thread Cert.KernelErf.nD Cert.KernelErf.τ).loc Cert.KernelErf.main_arg11) = m ((c.tc : Thread Cert.KernelErf.nD Cert.KernelErf.τ).loc Cert.KernelErf.main_arg11))
      ∧ r.2.sem = fun _ => 0)

def quiescent_KernelErfIdeal [hKernelErfIdeal : Cert.KernelErfIdeal.Facts] : Prop :=
  ∀ (m : (ℓ : Loc Cert.KernelErfIdeal.nD Cert.KernelErfIdeal.τ Cert.KernelErfIdeal.sig) → Buf (Elt Ideal) ℓ) (g : Dev Cert.KernelErfIdeal.nD → PrngReg), Pre_KernelErfIdeal m →
    θ_run (Cert.KernelErfIdeal.defs (F := Ideal)) (onTc (τ := Cert.KernelErfIdeal.τ) (Cert.KernelErfIdeal.main (F := Ideal))) ⟨m, fun _ => 0, g⟩ (fun r => (∀ c : Dev Cert.KernelErfIdeal.nD,
      r.2.mem ((c.tc : Thread Cert.KernelErfIdeal.nD Cert.KernelErfIdeal.τ).loc Cert.KernelErfIdeal.main_arg0) = m ((c.tc : Thread Cert.KernelErfIdeal.nD Cert.KernelErfIdeal.τ).loc Cert.KernelErfIdeal.main_arg0)
      ∧ r.2.mem ((c.tc : Thread Cert.KernelErfIdeal.nD Cert.KernelErfIdeal.τ).loc Cert.KernelErfIdeal.main_arg1) = m ((c.tc : Thread Cert.KernelErfIdeal.nD Cert.KernelErfIdeal.τ).loc Cert.KernelErfIdeal.main_arg1)
      ∧ r.2.mem ((c.tc : Thread Cert.KernelErfIdeal.nD Cert.KernelErfIdeal.τ).loc Cert.KernelErfIdeal.main_arg2) = m ((c.tc : Thread Cert.KernelErfIdeal.nD Cert.KernelErfIdeal.τ).loc Cert.KernelErfIdeal.main_arg2)
      ∧ r.2.mem ((c.tc : Thread Cert.KernelErfIdeal.nD Cert.KernelErfIdeal.τ).loc Cert.KernelErfIdeal.main_arg3) = m ((c.tc : Thread Cert.KernelErfIdeal.nD Cert.KernelErfIdeal.τ).loc Cert.KernelErfIdeal.main_arg3)
      ∧ r.2.mem ((c.tc : Thread Cert.KernelErfIdeal.nD Cert.KernelErfIdeal.τ).loc Cert.KernelErfIdeal.main_arg4) = m ((c.tc : Thread Cert.KernelErfIdeal.nD Cert.KernelErfIdeal.τ).loc Cert.KernelErfIdeal.main_arg4)
      ∧ r.2.mem ((c.tc : Thread Cert.KernelErfIdeal.nD Cert.KernelErfIdeal.τ).loc Cert.KernelErfIdeal.main_arg5) = m ((c.tc : Thread Cert.KernelErfIdeal.nD Cert.KernelErfIdeal.τ).loc Cert.KernelErfIdeal.main_arg5)
      ∧ r.2.mem ((c.tc : Thread Cert.KernelErfIdeal.nD Cert.KernelErfIdeal.τ).loc Cert.KernelErfIdeal.main_arg6) = m ((c.tc : Thread Cert.KernelErfIdeal.nD Cert.KernelErfIdeal.τ).loc Cert.KernelErfIdeal.main_arg6)
      ∧ r.2.mem ((c.tc : Thread Cert.KernelErfIdeal.nD Cert.KernelErfIdeal.τ).loc Cert.KernelErfIdeal.main_arg7) = m ((c.tc : Thread Cert.KernelErfIdeal.nD Cert.KernelErfIdeal.τ).loc Cert.KernelErfIdeal.main_arg7)
      ∧ r.2.mem ((c.tc : Thread Cert.KernelErfIdeal.nD Cert.KernelErfIdeal.τ).loc Cert.KernelErfIdeal.main_arg8) = m ((c.tc : Thread Cert.KernelErfIdeal.nD Cert.KernelErfIdeal.τ).loc Cert.KernelErfIdeal.main_arg8)
      ∧ r.2.mem ((c.tc : Thread Cert.KernelErfIdeal.nD Cert.KernelErfIdeal.τ).loc Cert.KernelErfIdeal.main_arg9) = m ((c.tc : Thread Cert.KernelErfIdeal.nD Cert.KernelErfIdeal.τ).loc Cert.KernelErfIdeal.main_arg9)
      ∧ r.2.mem ((c.tc : Thread Cert.KernelErfIdeal.nD Cert.KernelErfIdeal.τ).loc Cert.KernelErfIdeal.main_arg10) = m ((c.tc : Thread Cert.KernelErfIdeal.nD Cert.KernelErfIdeal.τ).loc Cert.KernelErfIdeal.main_arg10)
      ∧ r.2.mem ((c.tc : Thread Cert.KernelErfIdeal.nD Cert.KernelErfIdeal.τ).loc Cert.KernelErfIdeal.main_arg11) = m ((c.tc : Thread Cert.KernelErfIdeal.nD Cert.KernelErfIdeal.τ).loc Cert.KernelErfIdeal.main_arg11))
      ∧ r.2.sem = fun _ => 0)

def quiescent_KernelErfIdeal_pre_drawn [hKernelErfIdeal : Cert.KernelErfIdeal.Facts] [hPre_drawn : Cert.Pre_drawn.Facts] : Prop :=
  ∀ (m : (ℓ : Loc Cert.KernelErfIdeal.nD Cert.KernelErfIdeal.τ Cert.KernelErfIdeal.sig) → Buf (Elt Ideal) ℓ) (g : Dev Cert.KernelErfIdeal.nD → PrngReg), Pre_KernelErfIdeal_drawn m →
    θ_run (Cert.KernelErfIdeal.defs (F := Ideal)) (onTc (τ := Cert.KernelErfIdeal.τ) (Cert.KernelErfIdeal.main (F := Ideal))) ⟨m, fun _ => 0, g⟩ (fun r => (∀ c : Dev Cert.KernelErfIdeal.nD,
      r.2.mem ((c.tc : Thread Cert.KernelErfIdeal.nD Cert.KernelErfIdeal.τ).loc Cert.KernelErfIdeal.main_arg0) = m ((c.tc : Thread Cert.KernelErfIdeal.nD Cert.KernelErfIdeal.τ).loc Cert.KernelErfIdeal.main_arg0)
      ∧ r.2.mem ((c.tc : Thread Cert.KernelErfIdeal.nD Cert.KernelErfIdeal.τ).loc Cert.KernelErfIdeal.main_arg1) = m ((c.tc : Thread Cert.KernelErfIdeal.nD Cert.KernelErfIdeal.τ).loc Cert.KernelErfIdeal.main_arg1)
      ∧ r.2.mem ((c.tc : Thread Cert.KernelErfIdeal.nD Cert.KernelErfIdeal.τ).loc Cert.KernelErfIdeal.main_arg2) = m ((c.tc : Thread Cert.KernelErfIdeal.nD Cert.KernelErfIdeal.τ).loc Cert.KernelErfIdeal.main_arg2)
      ∧ r.2.mem ((c.tc : Thread Cert.KernelErfIdeal.nD Cert.KernelErfIdeal.τ).loc Cert.KernelErfIdeal.main_arg3) = m ((c.tc : Thread Cert.KernelErfIdeal.nD Cert.KernelErfIdeal.τ).loc Cert.KernelErfIdeal.main_arg3)
      ∧ r.2.mem ((c.tc : Thread Cert.KernelErfIdeal.nD Cert.KernelErfIdeal.τ).loc Cert.KernelErfIdeal.main_arg4) = m ((c.tc : Thread Cert.KernelErfIdeal.nD Cert.KernelErfIdeal.τ).loc Cert.KernelErfIdeal.main_arg4)
      ∧ r.2.mem ((c.tc : Thread Cert.KernelErfIdeal.nD Cert.KernelErfIdeal.τ).loc Cert.KernelErfIdeal.main_arg5) = m ((c.tc : Thread Cert.KernelErfIdeal.nD Cert.KernelErfIdeal.τ).loc Cert.KernelErfIdeal.main_arg5)
      ∧ r.2.mem ((c.tc : Thread Cert.KernelErfIdeal.nD Cert.KernelErfIdeal.τ).loc Cert.KernelErfIdeal.main_arg6) = m ((c.tc : Thread Cert.KernelErfIdeal.nD Cert.KernelErfIdeal.τ).loc Cert.KernelErfIdeal.main_arg6)
      ∧ r.2.mem ((c.tc : Thread Cert.KernelErfIdeal.nD Cert.KernelErfIdeal.τ).loc Cert.KernelErfIdeal.main_arg7) = m ((c.tc : Thread Cert.KernelErfIdeal.nD Cert.KernelErfIdeal.τ).loc Cert.KernelErfIdeal.main_arg7)
      ∧ r.2.mem ((c.tc : Thread Cert.KernelErfIdeal.nD Cert.KernelErfIdeal.τ).loc Cert.KernelErfIdeal.main_arg8) = m ((c.tc : Thread Cert.KernelErfIdeal.nD Cert.KernelErfIdeal.τ).loc Cert.KernelErfIdeal.main_arg8)
      ∧ r.2.mem ((c.tc : Thread Cert.KernelErfIdeal.nD Cert.KernelErfIdeal.τ).loc Cert.KernelErfIdeal.main_arg9) = m ((c.tc : Thread Cert.KernelErfIdeal.nD Cert.KernelErfIdeal.τ).loc Cert.KernelErfIdeal.main_arg9)
      ∧ r.2.mem ((c.tc : Thread Cert.KernelErfIdeal.nD Cert.KernelErfIdeal.τ).loc Cert.KernelErfIdeal.main_arg10) = m ((c.tc : Thread Cert.KernelErfIdeal.nD Cert.KernelErfIdeal.τ).loc Cert.KernelErfIdeal.main_arg10)
      ∧ r.2.mem ((c.tc : Thread Cert.KernelErfIdeal.nD Cert.KernelErfIdeal.τ).loc Cert.KernelErfIdeal.main_arg11) = m ((c.tc : Thread Cert.KernelErfIdeal.nD Cert.KernelErfIdeal.τ).loc Cert.KernelErfIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceRationalIdeal [hReferenceRationalIdeal : Cert.ReferenceRationalIdeal.Facts] : Prop :=
  ∀ (m : (ℓ : Loc Cert.ReferenceRationalIdeal.nD Cert.ReferenceRationalIdeal.τ Cert.ReferenceRationalIdeal.sig) → Buf (Elt Ideal) ℓ) (g : Dev Cert.ReferenceRationalIdeal.nD → PrngReg), Pre_ReferenceRationalIdeal m →
    θ_run (Cert.ReferenceRationalIdeal.defs (F := Ideal)) (onTc (τ := Cert.ReferenceRationalIdeal.τ) (Cert.ReferenceRationalIdeal.main (F := Ideal))) ⟨m, fun _ => 0, g⟩ (fun r => (∀ c : Dev Cert.ReferenceRationalIdeal.nD,
      r.2.mem ((c.tc : Thread Cert.ReferenceRationalIdeal.nD Cert.ReferenceRationalIdeal.τ).loc Cert.ReferenceRationalIdeal.main_arg0) = m ((c.tc : Thread Cert.ReferenceRationalIdeal.nD Cert.ReferenceRationalIdeal.τ).loc Cert.ReferenceRationalIdeal.main_arg0)
      ∧ r.2.mem ((c.tc : Thread Cert.ReferenceRationalIdeal.nD Cert.ReferenceRationalIdeal.τ).loc Cert.ReferenceRationalIdeal.main_arg1) = m ((c.tc : Thread Cert.ReferenceRationalIdeal.nD Cert.ReferenceRationalIdeal.τ).loc Cert.ReferenceRationalIdeal.main_arg1)
      ∧ r.2.mem ((c.tc : Thread Cert.ReferenceRationalIdeal.nD Cert.ReferenceRationalIdeal.τ).loc Cert.ReferenceRationalIdeal.main_arg2) = m ((c.tc : Thread Cert.ReferenceRationalIdeal.nD Cert.ReferenceRationalIdeal.τ).loc Cert.ReferenceRationalIdeal.main_arg2)
      ∧ r.2.mem ((c.tc : Thread Cert.ReferenceRationalIdeal.nD Cert.ReferenceRationalIdeal.τ).loc Cert.ReferenceRationalIdeal.main_arg3) = m ((c.tc : Thread Cert.ReferenceRationalIdeal.nD Cert.ReferenceRationalIdeal.τ).loc Cert.ReferenceRationalIdeal.main_arg3)
      ∧ r.2.mem ((c.tc : Thread Cert.ReferenceRationalIdeal.nD Cert.ReferenceRationalIdeal.τ).loc Cert.ReferenceRationalIdeal.main_arg4) = m ((c.tc : Thread Cert.ReferenceRationalIdeal.nD Cert.ReferenceRationalIdeal.τ).loc Cert.ReferenceRationalIdeal.main_arg4)
      ∧ r.2.mem ((c.tc : Thread Cert.ReferenceRationalIdeal.nD Cert.ReferenceRationalIdeal.τ).loc Cert.ReferenceRationalIdeal.main_arg5) = m ((c.tc : Thread Cert.ReferenceRationalIdeal.nD Cert.ReferenceRationalIdeal.τ).loc Cert.ReferenceRationalIdeal.main_arg5)
      ∧ r.2.mem ((c.tc : Thread Cert.ReferenceRationalIdeal.nD Cert.ReferenceRationalIdeal.τ).loc Cert.ReferenceRationalIdeal.main_arg6) = m ((c.tc : Thread Cert.ReferenceRationalIdeal.nD Cert.ReferenceRationalIdeal.τ).loc Cert.ReferenceRationalIdeal.main_arg6)
      ∧ r.2.mem ((c.tc : Thread Cert.ReferenceRationalIdeal.nD Cert.ReferenceRationalIdeal.τ).loc Cert.ReferenceRationalIdeal.main_arg7) = m ((c.tc : Thread Cert.ReferenceRationalIdeal.nD Cert.ReferenceRationalIdeal.τ).loc Cert.ReferenceRationalIdeal.main_arg7)
      ∧ r.2.mem ((c.tc : Thread Cert.ReferenceRationalIdeal.nD Cert.ReferenceRationalIdeal.τ).loc Cert.ReferenceRationalIdeal.main_arg8) = m ((c.tc : Thread Cert.ReferenceRationalIdeal.nD Cert.ReferenceRationalIdeal.τ).loc Cert.ReferenceRationalIdeal.main_arg8)
      ∧ r.2.mem ((c.tc : Thread Cert.ReferenceRationalIdeal.nD Cert.ReferenceRationalIdeal.τ).loc Cert.ReferenceRationalIdeal.main_arg9) = m ((c.tc : Thread Cert.ReferenceRationalIdeal.nD Cert.ReferenceRationalIdeal.τ).loc Cert.ReferenceRationalIdeal.main_arg9)
      ∧ r.2.mem ((c.tc : Thread Cert.ReferenceRationalIdeal.nD Cert.ReferenceRationalIdeal.τ).loc Cert.ReferenceRationalIdeal.main_arg10) = m ((c.tc : Thread Cert.ReferenceRationalIdeal.nD Cert.ReferenceRationalIdeal.τ).loc Cert.ReferenceRationalIdeal.main_arg10)
      ∧ r.2.mem ((c.tc : Thread Cert.ReferenceRationalIdeal.nD Cert.ReferenceRationalIdeal.τ).loc Cert.ReferenceRationalIdeal.main_arg11) = m ((c.tc : Thread Cert.ReferenceRationalIdeal.nD Cert.ReferenceRationalIdeal.τ).loc Cert.ReferenceRationalIdeal.main_arg11))
      ∧ r.2.sem = fun _ => 0)

def quiescent_ReferenceRationalIdeal_pre_drawn [hReferenceRationalIdeal : Cert.ReferenceRationalIdeal.Facts] [hPre_drawn : Cert.Pre_drawn.Facts] : Prop :=
  ∀ (m : (ℓ : Loc Cert.ReferenceRationalIdeal.nD Cert.ReferenceRationalIdeal.τ Cert.ReferenceRationalIdeal.sig) → Buf (Elt Ideal) ℓ) (g : Dev Cert.ReferenceRationalIdeal.nD → PrngReg), Pre_ReferenceRationalIdeal_drawn m →
    θ_run (Cert.ReferenceRationalIdeal.defs (F := Ideal)) (onTc (τ := Cert.ReferenceRationalIdeal.τ) (Cert.ReferenceRationalIdeal.main (F := Ideal))) ⟨m, fun _ => 0, g⟩ (fun r => (∀ c : Dev Cert.ReferenceRationalIdeal.nD,
      r.2.mem ((c.tc : Thread Cert.ReferenceRationalIdeal.nD Cert.ReferenceRationalIdeal.τ).loc Cert.ReferenceRationalIdeal.main_arg0) = m ((c.tc : Thread Cert.ReferenceRationalIdeal.nD Cert.ReferenceRationalIdeal.τ).loc Cert.ReferenceRationalIdeal.main_arg0)
      ∧ r.2.mem ((c.tc : Thread Cert.ReferenceRationalIdeal.nD Cert.ReferenceRationalIdeal.τ).loc Cert.ReferenceRationalIdeal.main_arg1) = m ((c.tc : Thread Cert.ReferenceRationalIdeal.nD Cert.ReferenceRationalIdeal.τ).loc Cert.ReferenceRationalIdeal.main_arg1)
      ∧ r.2.mem ((c.tc : Thread Cert.ReferenceRationalIdeal.nD Cert.ReferenceRationalIdeal.τ).loc Cert.ReferenceRationalIdeal.main_arg2) = m ((c.tc : Thread Cert.ReferenceRationalIdeal.nD Cert.ReferenceRationalIdeal.τ).loc Cert.ReferenceRationalIdeal.main_arg2)
      ∧ r.2.mem ((c.tc : Thread Cert.ReferenceRationalIdeal.nD Cert.ReferenceRationalIdeal.τ).loc Cert.ReferenceRationalIdeal.main_arg3) = m ((c.tc : Thread Cert.ReferenceRationalIdeal.nD Cert.ReferenceRationalIdeal.τ).loc Cert.ReferenceRationalIdeal.main_arg3)
      ∧ r.2.mem ((c.tc : Thread Cert.ReferenceRationalIdeal.nD Cert.ReferenceRationalIdeal.τ).loc Cert.ReferenceRationalIdeal.main_arg4) = m ((c.tc : Thread Cert.ReferenceRationalIdeal.nD Cert.ReferenceRationalIdeal.τ).loc Cert.ReferenceRationalIdeal.main_arg4)
      ∧ r.2.mem ((c.tc : Thread Cert.ReferenceRationalIdeal.nD Cert.ReferenceRationalIdeal.τ).loc Cert.ReferenceRationalIdeal.main_arg5) = m ((c.tc : Thread Cert.ReferenceRationalIdeal.nD Cert.ReferenceRationalIdeal.τ).loc Cert.ReferenceRationalIdeal.main_arg5)
      ∧ r.2.mem ((c.tc : Thread Cert.ReferenceRationalIdeal.nD Cert.ReferenceRationalIdeal.τ).loc Cert.ReferenceRationalIdeal.main_arg6) = m ((c.tc : Thread Cert.ReferenceRationalIdeal.nD Cert.ReferenceRationalIdeal.τ).loc Cert.ReferenceRationalIdeal.main_arg6)
      ∧ r.2.mem ((c.tc : Thread Cert.ReferenceRationalIdeal.nD Cert.ReferenceRationalIdeal.τ).loc Cert.ReferenceRationalIdeal.main_arg7) = m ((c.tc : Thread Cert.ReferenceRationalIdeal.nD Cert.ReferenceRationalIdeal.τ).loc Cert.ReferenceRationalIdeal.main_arg7)
      ∧ r.2.mem ((c.tc : Thread Cert.ReferenceRationalIdeal.nD Cert.ReferenceRationalIdeal.τ).loc Cert.ReferenceRationalIdeal.main_arg8) = m ((c.tc : Thread Cert.ReferenceRationalIdeal.nD Cert.ReferenceRationalIdeal.τ).loc Cert.ReferenceRationalIdeal.main_arg8)
      ∧ r.2.mem ((c.tc : Thread Cert.ReferenceRationalIdeal.nD Cert.ReferenceRationalIdeal.τ).loc Cert.ReferenceRationalIdeal.main_arg9) = m ((c.tc : Thread Cert.ReferenceRationalIdeal.nD Cert.ReferenceRationalIdeal.τ).loc Cert.ReferenceRationalIdeal.main_arg9)
      ∧ r.2.mem ((c.tc : Thread Cert.ReferenceRationalIdeal.nD Cert.ReferenceRationalIdeal.τ).loc Cert.ReferenceRationalIdeal.main_arg10) = m ((c.tc : Thread Cert.ReferenceRationalIdeal.nD Cert.ReferenceRationalIdeal.τ).loc Cert.ReferenceRationalIdeal.main_arg10)
      ∧ r.2.mem ((c.tc : Thread Cert.ReferenceRationalIdeal.nD Cert.ReferenceRationalIdeal.τ).loc Cert.ReferenceRationalIdeal.main_arg11) = m ((c.tc : Thread Cert.ReferenceRationalIdeal.nD Cert.ReferenceRationalIdeal.τ).loc Cert.ReferenceRationalIdeal.main_arg11))
      ∧ r.2.sem = fun _ => 0)

def preserves_Kernel_KernelIdeal : Prop :=
  IdealRules.sign_bit.Statement Cert.KernelIdeal.S201x64 .f32

def preserves_KernelErf_KernelErfIdeal : Prop :=
  True

def algebraic_KernelErfIdeal_ReferenceIdeal_pre_drawn [hKernelErfIdeal : Cert.KernelErfIdeal.Facts] [hReferenceIdeal : Cert.ReferenceIdeal.Facts] [hPre_drawn : Cert.Pre_drawn.Facts] : Prop :=
  ∀ (m : (ℓ : Loc Cert.KernelErfIdeal.nD Cert.KernelErfIdeal.τ Cert.KernelErfIdeal.sig) → Buf (Elt Ideal) ℓ) (g : Dev Cert.KernelErfIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelErfIdeal_drawn m →
    (∀ c : Dev Cert.KernelErfIdeal.nD,
      m' ((c.tc : Thread Cert.ReferenceIdeal.nD Cert.ReferenceIdeal.τ).loc Cert.ReferenceIdeal.main_arg0) = m ((c.tc : Thread Cert.KernelErfIdeal.nD Cert.KernelErfIdeal.τ).loc Cert.KernelErfIdeal.main_arg0)
      ∧ m' ((c.tc : Thread Cert.ReferenceIdeal.nD Cert.ReferenceIdeal.τ).loc Cert.ReferenceIdeal.main_arg1) = m ((c.tc : Thread Cert.KernelErfIdeal.nD Cert.KernelErfIdeal.τ).loc Cert.KernelErfIdeal.main_arg1)
      ∧ m' ((c.tc : Thread Cert.ReferenceIdeal.nD Cert.ReferenceIdeal.τ).loc Cert.ReferenceIdeal.main_arg2) = m ((c.tc : Thread Cert.KernelErfIdeal.nD Cert.KernelErfIdeal.τ).loc Cert.KernelErfIdeal.main_arg2)
      ∧ m' ((c.tc : Thread Cert.ReferenceIdeal.nD Cert.ReferenceIdeal.τ).loc Cert.ReferenceIdeal.main_arg3) = m ((c.tc : Thread Cert.KernelErfIdeal.nD Cert.KernelErfIdeal.τ).loc Cert.KernelErfIdeal.main_arg3)
      ∧ m' ((c.tc : Thread Cert.ReferenceIdeal.nD Cert.ReferenceIdeal.τ).loc Cert.ReferenceIdeal.main_arg4) = m ((c.tc : Thread Cert.KernelErfIdeal.nD Cert.KernelErfIdeal.τ).loc Cert.KernelErfIdeal.main_arg4)
      ∧ m' ((c.tc : Thread Cert.ReferenceIdeal.nD Cert.ReferenceIdeal.τ).loc Cert.ReferenceIdeal.main_arg5) = m ((c.tc : Thread Cert.KernelErfIdeal.nD Cert.KernelErfIdeal.τ).loc Cert.KernelErfIdeal.main_arg5)
      ∧ m' ((c.tc : Thread Cert.ReferenceIdeal.nD Cert.ReferenceIdeal.τ).loc Cert.ReferenceIdeal.main_arg6) = m ((c.tc : Thread Cert.KernelErfIdeal.nD Cert.KernelErfIdeal.τ).loc Cert.KernelErfIdeal.main_arg6)
      ∧ m' ((c.tc : Thread Cert.ReferenceIdeal.nD Cert.ReferenceIdeal.τ).loc Cert.ReferenceIdeal.main_arg7) = m ((c.tc : Thread Cert.KernelErfIdeal.nD Cert.KernelErfIdeal.τ).loc Cert.KernelErfIdeal.main_arg7)
      ∧ m' ((c.tc : Thread Cert.ReferenceIdeal.nD Cert.ReferenceIdeal.τ).loc Cert.ReferenceIdeal.main_arg8) = m ((c.tc : Thread Cert.KernelErfIdeal.nD Cert.KernelErfIdeal.τ).loc Cert.KernelErfIdeal.main_arg8)
      ∧ m' ((c.tc : Thread Cert.ReferenceIdeal.nD Cert.ReferenceIdeal.τ).loc Cert.ReferenceIdeal.main_arg9) = m ((c.tc : Thread Cert.KernelErfIdeal.nD Cert.KernelErfIdeal.τ).loc Cert.KernelErfIdeal.main_arg9)
      ∧ m' ((c.tc : Thread Cert.ReferenceIdeal.nD Cert.ReferenceIdeal.τ).loc Cert.ReferenceIdeal.main_arg10) = m ((c.tc : Thread Cert.KernelErfIdeal.nD Cert.KernelErfIdeal.τ).loc Cert.KernelErfIdeal.main_arg10)
      ∧ m' ((c.tc : Thread Cert.ReferenceIdeal.nD Cert.ReferenceIdeal.τ).loc Cert.ReferenceIdeal.main_arg11) = m ((c.tc : Thread Cert.KernelErfIdeal.nD Cert.KernelErfIdeal.τ).loc Cert.KernelErfIdeal.main_arg11)) →
    ∃ (v0 : (c : Dev Cert.KernelErfIdeal.nD) → Buf (Elt Ideal) ((c.tc : Thread Cert.KernelErfIdeal.nD Cert.KernelErfIdeal.τ).loc Cert.KernelErfIdeal.main_v8)),
      θ_run (Cert.KernelErfIdeal.defs (F := Ideal)) (onTc (τ := Cert.KernelErfIdeal.τ) (Cert.KernelErfIdeal.main (F := Ideal))) ⟨m, fun _ => 0, g⟩ (fun r => ∀ c : Dev Cert.KernelErfIdeal.nD,
          r.2.mem ((c.tc : Thread Cert.KernelErfIdeal.nD Cert.KernelErfIdeal.τ).loc Cert.KernelErfIdeal.main_v8) = v0 c
          ∧ r.2.mem ((c.tc : Thread Cert.KernelErfIdeal.nD Cert.KernelErfIdeal.τ).loc Cert.KernelErfIdeal.main_arg0) = m ((c.tc : Thread Cert.KernelErfIdeal.nD Cert.KernelErfIdeal.τ).loc Cert.KernelErfIdeal.main_arg0)
          ∧ r.2.mem ((c.tc : Thread Cert.KernelErfIdeal.nD Cert.KernelErfIdeal.τ).loc Cert.KernelErfIdeal.main_arg1) = m ((c.tc : Thread Cert.KernelErfIdeal.nD Cert.KernelErfIdeal.τ).loc Cert.KernelErfIdeal.main_arg1)
          ∧ r.2.mem ((c.tc : Thread Cert.KernelErfIdeal.nD Cert.KernelErfIdeal.τ).loc Cert.KernelErfIdeal.main_arg2) = m ((c.tc : Thread Cert.KernelErfIdeal.nD Cert.KernelErfIdeal.τ).loc Cert.KernelErfIdeal.main_arg2)
          ∧ r.2.mem ((c.tc : Thread Cert.KernelErfIdeal.nD Cert.KernelErfIdeal.τ).loc Cert.KernelErfIdeal.main_arg3) = m ((c.tc : Thread Cert.KernelErfIdeal.nD Cert.KernelErfIdeal.τ).loc Cert.KernelErfIdeal.main_arg3)
          ∧ r.2.mem ((c.tc : Thread Cert.KernelErfIdeal.nD Cert.KernelErfIdeal.τ).loc Cert.KernelErfIdeal.main_arg4) = m ((c.tc : Thread Cert.KernelErfIdeal.nD Cert.KernelErfIdeal.τ).loc Cert.KernelErfIdeal.main_arg4)
          ∧ r.2.mem ((c.tc : Thread Cert.KernelErfIdeal.nD Cert.KernelErfIdeal.τ).loc Cert.KernelErfIdeal.main_arg5) = m ((c.tc : Thread Cert.KernelErfIdeal.nD Cert.KernelErfIdeal.τ).loc Cert.KernelErfIdeal.main_arg5)
          ∧ r.2.mem ((c.tc : Thread Cert.KernelErfIdeal.nD Cert.KernelErfIdeal.τ).loc Cert.KernelErfIdeal.main_arg6) = m ((c.tc : Thread Cert.KernelErfIdeal.nD Cert.KernelErfIdeal.τ).loc Cert.KernelErfIdeal.main_arg6)
          ∧ r.2.mem ((c.tc : Thread Cert.KernelErfIdeal.nD Cert.KernelErfIdeal.τ).loc Cert.KernelErfIdeal.main_arg7) = m ((c.tc : Thread Cert.KernelErfIdeal.nD Cert.KernelErfIdeal.τ).loc Cert.KernelErfIdeal.main_arg7)
          ∧ r.2.mem ((c.tc : Thread Cert.KernelErfIdeal.nD Cert.KernelErfIdeal.τ).loc Cert.KernelErfIdeal.main_arg8) = m ((c.tc : Thread Cert.KernelErfIdeal.nD Cert.KernelErfIdeal.τ).loc Cert.KernelErfIdeal.main_arg8)
          ∧ r.2.mem ((c.tc : Thread Cert.KernelErfIdeal.nD Cert.KernelErfIdeal.τ).loc Cert.KernelErfIdeal.main_arg9) = m ((c.tc : Thread Cert.KernelErfIdeal.nD Cert.KernelErfIdeal.τ).loc Cert.KernelErfIdeal.main_arg9)
          ∧ r.2.mem ((c.tc : Thread Cert.KernelErfIdeal.nD Cert.KernelErfIdeal.τ).loc Cert.KernelErfIdeal.main_arg10) = m ((c.tc : Thread Cert.KernelErfIdeal.nD Cert.KernelErfIdeal.τ).loc Cert.KernelErfIdeal.main_arg10)
          ∧ r.2.mem ((c.tc : Thread Cert.KernelErfIdeal.nD Cert.KernelErfIdeal.τ).loc Cert.KernelErfIdeal.main_arg11) = m ((c.tc : Thread Cert.KernelErfIdeal.nD Cert.KernelErfIdeal.τ).loc Cert.KernelErfIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def algebraic_KernelIdeal_ReferenceRationalIdeal_pre_drawn [hKernelIdeal : Cert.KernelIdeal.Facts] [hReferenceRationalIdeal : Cert.ReferenceRationalIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceRationalIdeal.nD Cert.ReferenceRationalIdeal.τ Cert.ReferenceRationalIdeal.sig) → Buf (Elt Ideal) ℓ) (g' : Dev Cert.ReferenceRationalIdeal.nD → PrngReg), Pre_KernelIdeal_drawn m →
    (∀ c : Dev Cert.KernelIdeal.nD,
      m' ((c.tc : Thread Cert.ReferenceRationalIdeal.nD Cert.ReferenceRationalIdeal.τ).loc Cert.ReferenceRationalIdeal.main_arg0) = m ((c.tc : Thread Cert.KernelIdeal.nD Cert.KernelIdeal.τ).loc Cert.KernelIdeal.main_arg0)
      ∧ m' ((c.tc : Thread Cert.ReferenceRationalIdeal.nD Cert.ReferenceRationalIdeal.τ).loc Cert.ReferenceRationalIdeal.main_arg1) = m ((c.tc : Thread Cert.KernelIdeal.nD Cert.KernelIdeal.τ).loc Cert.KernelIdeal.main_arg1)
      ∧ m' ((c.tc : Thread Cert.ReferenceRationalIdeal.nD Cert.ReferenceRationalIdeal.τ).loc Cert.ReferenceRationalIdeal.main_arg2) = m ((c.tc : Thread Cert.KernelIdeal.nD Cert.KernelIdeal.τ).loc Cert.KernelIdeal.main_arg2)
      ∧ m' ((c.tc : Thread Cert.ReferenceRationalIdeal.nD Cert.ReferenceRationalIdeal.τ).loc Cert.ReferenceRationalIdeal.main_arg3) = m ((c.tc : Thread Cert.KernelIdeal.nD Cert.KernelIdeal.τ).loc Cert.KernelIdeal.main_arg3)
      ∧ m' ((c.tc : Thread Cert.ReferenceRationalIdeal.nD Cert.ReferenceRationalIdeal.τ).loc Cert.ReferenceRationalIdeal.main_arg4) = m ((c.tc : Thread Cert.KernelIdeal.nD Cert.KernelIdeal.τ).loc Cert.KernelIdeal.main_arg4)
      ∧ m' ((c.tc : Thread Cert.ReferenceRationalIdeal.nD Cert.ReferenceRationalIdeal.τ).loc Cert.ReferenceRationalIdeal.main_arg5) = m ((c.tc : Thread Cert.KernelIdeal.nD Cert.KernelIdeal.τ).loc Cert.KernelIdeal.main_arg5)
      ∧ m' ((c.tc : Thread Cert.ReferenceRationalIdeal.nD Cert.ReferenceRationalIdeal.τ).loc Cert.ReferenceRationalIdeal.main_arg6) = m ((c.tc : Thread Cert.KernelIdeal.nD Cert.KernelIdeal.τ).loc Cert.KernelIdeal.main_arg6)
      ∧ m' ((c.tc : Thread Cert.ReferenceRationalIdeal.nD Cert.ReferenceRationalIdeal.τ).loc Cert.ReferenceRationalIdeal.main_arg7) = m ((c.tc : Thread Cert.KernelIdeal.nD Cert.KernelIdeal.τ).loc Cert.KernelIdeal.main_arg7)
      ∧ m' ((c.tc : Thread Cert.ReferenceRationalIdeal.nD Cert.ReferenceRationalIdeal.τ).loc Cert.ReferenceRationalIdeal.main_arg8) = m ((c.tc : Thread Cert.KernelIdeal.nD Cert.KernelIdeal.τ).loc Cert.KernelIdeal.main_arg8)
      ∧ m' ((c.tc : Thread Cert.ReferenceRationalIdeal.nD Cert.ReferenceRationalIdeal.τ).loc Cert.ReferenceRationalIdeal.main_arg9) = m ((c.tc : Thread Cert.KernelIdeal.nD Cert.KernelIdeal.τ).loc Cert.KernelIdeal.main_arg9)
      ∧ m' ((c.tc : Thread Cert.ReferenceRationalIdeal.nD Cert.ReferenceRationalIdeal.τ).loc Cert.ReferenceRationalIdeal.main_arg10) = m ((c.tc : Thread Cert.KernelIdeal.nD Cert.KernelIdeal.τ).loc Cert.KernelIdeal.main_arg10)
      ∧ m' ((c.tc : Thread Cert.ReferenceRationalIdeal.nD Cert.ReferenceRationalIdeal.τ).loc Cert.ReferenceRationalIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceRationalIdeal.defs (F := Ideal)) (onTc (τ := Cert.ReferenceRationalIdeal.τ) (Cert.ReferenceRationalIdeal.main (F := Ideal))) ⟨m', fun _ => 0, g'⟩ (fun r => ∀ c : Dev Cert.ReferenceRationalIdeal.nD,
          r.2.mem ((c.tc : Thread Cert.ReferenceRationalIdeal.nD Cert.ReferenceRationalIdeal.τ).loc Cert.ReferenceRationalIdeal.main_v76) = v0 c
          ∧ r.2.mem ((c.tc : Thread Cert.ReferenceRationalIdeal.nD Cert.ReferenceRationalIdeal.τ).loc Cert.ReferenceRationalIdeal.main_arg0) = m' ((c.tc : Thread Cert.ReferenceRationalIdeal.nD Cert.ReferenceRationalIdeal.τ).loc Cert.ReferenceRationalIdeal.main_arg0)
          ∧ r.2.mem ((c.tc : Thread Cert.ReferenceRationalIdeal.nD Cert.ReferenceRationalIdeal.τ).loc Cert.ReferenceRationalIdeal.main_arg1) = m' ((c.tc : Thread Cert.ReferenceRationalIdeal.nD Cert.ReferenceRationalIdeal.τ).loc Cert.ReferenceRationalIdeal.main_arg1)
          ∧ r.2.mem ((c.tc : Thread Cert.ReferenceRationalIdeal.nD Cert.ReferenceRationalIdeal.τ).loc Cert.ReferenceRationalIdeal.main_arg2) = m' ((c.tc : Thread Cert.ReferenceRationalIdeal.nD Cert.ReferenceRationalIdeal.τ).loc Cert.ReferenceRationalIdeal.main_arg2)
          ∧ r.2.mem ((c.tc : Thread Cert.ReferenceRationalIdeal.nD Cert.ReferenceRationalIdeal.τ).loc Cert.ReferenceRationalIdeal.main_arg3) = m' ((c.tc : Thread Cert.ReferenceRationalIdeal.nD Cert.ReferenceRationalIdeal.τ).loc Cert.ReferenceRationalIdeal.main_arg3)
          ∧ r.2.mem ((c.tc : Thread Cert.ReferenceRationalIdeal.nD Cert.ReferenceRationalIdeal.τ).loc Cert.ReferenceRationalIdeal.main_arg4) = m' ((c.tc : Thread Cert.ReferenceRationalIdeal.nD Cert.ReferenceRationalIdeal.τ).loc Cert.ReferenceRationalIdeal.main_arg4)
          ∧ r.2.mem ((c.tc : Thread Cert.ReferenceRationalIdeal.nD Cert.ReferenceRationalIdeal.τ).loc Cert.ReferenceRationalIdeal.main_arg5) = m' ((c.tc : Thread Cert.ReferenceRationalIdeal.nD Cert.ReferenceRationalIdeal.τ).loc Cert.ReferenceRationalIdeal.main_arg5)
          ∧ r.2.mem ((c.tc : Thread Cert.ReferenceRationalIdeal.nD Cert.ReferenceRationalIdeal.τ).loc Cert.ReferenceRationalIdeal.main_arg6) = m' ((c.tc : Thread Cert.ReferenceRationalIdeal.nD Cert.ReferenceRationalIdeal.τ).loc Cert.ReferenceRationalIdeal.main_arg6)
          ∧ r.2.mem ((c.tc : Thread Cert.ReferenceRationalIdeal.nD Cert.ReferenceRationalIdeal.τ).loc Cert.ReferenceRationalIdeal.main_arg7) = m' ((c.tc : Thread Cert.ReferenceRationalIdeal.nD Cert.ReferenceRationalIdeal.τ).loc Cert.ReferenceRationalIdeal.main_arg7)
          ∧ r.2.mem ((c.tc : Thread Cert.ReferenceRationalIdeal.nD Cert.ReferenceRationalIdeal.τ).loc Cert.ReferenceRationalIdeal.main_arg8) = m' ((c.tc : Thread Cert.ReferenceRationalIdeal.nD Cert.ReferenceRationalIdeal.τ).loc Cert.ReferenceRationalIdeal.main_arg8)
          ∧ r.2.mem ((c.tc : Thread Cert.ReferenceRationalIdeal.nD Cert.ReferenceRationalIdeal.τ).loc Cert.ReferenceRationalIdeal.main_arg9) = m' ((c.tc : Thread Cert.ReferenceRationalIdeal.nD Cert.ReferenceRationalIdeal.τ).loc Cert.ReferenceRationalIdeal.main_arg9)
          ∧ r.2.mem ((c.tc : Thread Cert.ReferenceRationalIdeal.nD Cert.ReferenceRationalIdeal.τ).loc Cert.ReferenceRationalIdeal.main_arg10) = m' ((c.tc : Thread Cert.ReferenceRationalIdeal.nD Cert.ReferenceRationalIdeal.τ).loc Cert.ReferenceRationalIdeal.main_arg10)
          ∧ r.2.mem ((c.tc : Thread Cert.ReferenceRationalIdeal.nD Cert.ReferenceRationalIdeal.τ).loc Cert.ReferenceRationalIdeal.main_arg11) = m' ((c.tc : Thread Cert.ReferenceRationalIdeal.nD Cert.ReferenceRationalIdeal.τ).loc Cert.ReferenceRationalIdeal.main_arg11))

def Claim : Prop :=
  ∃ (hKernel : Cert.Kernel.Facts) (hKernelIdeal : Cert.KernelIdeal.Facts) (hKernelErf : Cert.KernelErf.Facts) (hKernelErfIdeal : Cert.KernelErfIdeal.Facts) (hReferenceIdeal : Cert.ReferenceIdeal.Facts) (hReferenceRationalIdeal : Cert.ReferenceRationalIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_KernelErf (hKernelErf := hKernelErf)
    ∧ quiescent_KernelErfIdeal (hKernelErfIdeal := hKernelErfIdeal)
    ∧ quiescent_KernelErfIdeal_pre_drawn (hKernelErfIdeal := hKernelErfIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ quiescent_ReferenceRationalIdeal (hReferenceRationalIdeal := hReferenceRationalIdeal)
    ∧ quiescent_ReferenceRationalIdeal_pre_drawn (hReferenceRationalIdeal := hReferenceRationalIdeal) (hPre_drawn := hPre_drawn)
    ∧ preserves_Kernel_KernelIdeal
    ∧ preserves_KernelErf_KernelErfIdeal
    ∧ algebraic_KernelErfIdeal_ReferenceIdeal_pre_drawn (hKernelErfIdeal := hKernelErfIdeal) (hReferenceIdeal := hReferenceIdeal) (hPre_drawn := hPre_drawn)
    ∧ algebraic_KernelIdeal_ReferenceRationalIdeal_pre_drawn (hKernelIdeal := hKernelIdeal) (hReferenceRationalIdeal := hReferenceRationalIdeal) (hPre_drawn := hPre_drawn)
-- ==== Pre_drawn.lean ====
abbrev S16384x200 : Shape := ⟨2, ![16384, 200]⟩
abbrev S16384x50x4 : Shape := ⟨3, ![16384, 50, 4]⟩
abbrev S16384x50 : Shape := ⟨2, ![16384, 50]⟩
abbrev S8192x32 : Shape := ⟨2, ![8192, 32]⟩
abbrev S82x32 : Shape := ⟨2, ![82, 32]⟩
abbrev S81x32 : Shape := ⟨2, ![81, 32]⟩
abbrev S2x32 : Shape := ⟨2, ![2, 32]⟩
abbrev S8x32 : Shape := ⟨2, ![8, 32]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S16384x200 : S_.BroadcastsInDim S16384x200 (![] : Fin 0 → Fin S16384x200.rank)
  bcast_S_S16384x50x4 : S_.BroadcastsInDim S16384x50x4 (![] : Fin 0 → Fin S16384x50x4.rank)
  bcast_S_S8192x32 : S_.BroadcastsInDim S8192x32 (![] : Fin 0 → Fin S8192x32.rank)
  bcast_S_S82x32 : S_.BroadcastsInDim S82x32 (![] : Fin 0 → Fin S82x32.rank)
  bcast_S_S81x32 : S_.BroadcastsInDim S81x32 (![] : Fin 0 → Fin S81x32.rank)
  bcast_S_S2x32 : S_.BroadcastsInDim S2x32 (![] : Fin 0 → Fin S2x32.rank)
  bcast_S_S8x32 : S_.BroadcastsInDim S8x32 (![] : Fin 0 → Fin S8x32.rank)
  bcast_S_S64x64 : S_.BroadcastsInDim S64x64 (![] : Fin 0 → Fin S64x64.rank)
  bcast_S_S64 : S_.BroadcastsInDim S64 (![] : Fin 0 → Fin S64.rank)
  bcast_S_S64x1 : S_.BroadcastsInDim S64x1 (![] : Fin 0 → Fin S64x1.rank)
  bcast_S_S1 : S_.BroadcastsInDim S1 (![] : Fin 0 → Fin S1.rank)

variable [Facts]

def fn_part2 {F : FTy → Type} [FloatOps F] (main_arg2 : IVec S16384x50 1) (main_v4 : IVec S16384x200 1) (main_v9 : IVec S16384x50x4 1) (main_v12 : IVec S8192x32 1) (main_v15 : IVec S82x32 1) (main_v18 : IVec S81x32 1) (main_v21 : IVec S2x32 1) (main_v24 : IVec S8x32 1) (main_v27 : IVec S64x64 1) (main_v30 : IVec S64 1) (main_v33 : IVec S64x1 1) (main_v34 : FVec F S1 .f32) (main_cst_10 : FVec F S_ .f32) : IVec S16384x200 1 × IVec S16384x50x4 1 × IVec S16384x50 1 × IVec S8192x32 1 × IVec S82x32 1 × IVec S81x32 1 × IVec S2x32 1 × IVec S8x32 1 × IVec S64x64 1 × IVec S64 1 × IVec S64x1 1 × IVec S1 1 :=
  let main_v35 : FVec F S1 .f32 := broadcastInDim S1 ![] bcast_S_S1 main_cst_10
  let main_v36 : IVec S1 1 := cmpf .olt main_v34 main_v35
  (main_v4, main_v9, main_arg2, main_v12, main_v15, main_v18, main_v21, main_v24, main_v27, main_v30, main_v33, main_v36)

def fn_part1 {F : FTy → Type} [FloatOps F] (main_arg2 : IVec S16384x50 1) (main_arg6 : FVec F S2x32 .f32) (main_arg7 : FVec F S8x32 .f32) (main_arg8 : FVec F S64x64 .f32) (main_arg9 : FVec F S64 .f32) (main_arg10 : FVec F S64x1 .f32) (main_arg11 : FVec F S1 .f32) (main_v4 : IVec S16384x200 1) (main_v9 : IVec S16384x50x4 1) (main_v12 : IVec S8192x32 1) (main_v15 : IVec S82x32 1) (main_v16 : FVec F S81x32 .f32) (main_cst_4 : FVec F S_ .f32) : IVec S16384x200 1 × IVec S16384x50x4 1 × IVec S16384x50 1 × IVec S8192x32 1 × IVec S82x32 1 × IVec S81x32 1 × IVec S2x32 1 × IVec S8x32 1 × IVec S64x64 1 × IVec S64 1 × IVec S64x1 1 × IVec S1 1 :=
  let main_v17 : FVec F S81x32 .f32 := broadcastInDim S81x32 ![] bcast_S_S81x32 main_cst_4
  let main_v18 : IVec S81x32 1 := cmpf .olt main_v16 main_v17
  let main_v19 : FVec F S2x32 .f32 := Host.absf main_arg6
  let main_cst_5 : FVec F S_ .f32 := constant S_ .f32 0x7F800000#32
  let main_v20 : FVec F S2x32 .f32 := broadcastInDim S2x32 ![] bcast_S_S2x32 main_cst_5
  let main_v21 : IVec S2x32 1 := cmpf .olt main_v19 main_v20
  let main_v22 : FVec F S8x32 .f32 := Host.absf main_arg7
  let main_cst_6 : FVec F S_ .f32 := constant S_ .f32 0x7F800000#32
  let main_v23 : FVec F S8x32 .f32 := broadcastInDim S8x32 ![] bcast_S_S8x32 main_cst_6
  let main_v24 : IVec S8x32 1 := cmpf .olt main_v22 main_v23
  let main_v25 : FVec F S64x64 .f32 := Host.absf main_arg8
  let main_cst_7 : FVec F S_ .f32 := constant S_ .f32 0x7F800000#32
  let main_v26 : FVec F S64x64 .f32 := broadcastInDim S64x64 ![] bcast_S_S64x64 main_cst_7
  let main_v27 : IVec S64x64 1 := cmpf .olt main_v25 main_v26
  let main_v28 : FVec F S64 .f32 := Host.absf main_arg9
  let main_cst_8 : FVec F S_ .f32 := constant S_ .f32 0x7F800000#32
  let main_v29 : FVec F S64 .f32 := broadcastInDim S64 ![] bcast_S_S64 main_cst_8
  let main_v30 : IVec S64 1 := cmpf .olt main_v28 main_v29
  let main_v31 : FVec F S64x1 .f32 := Host.absf main_arg10
  let main_cst_9 : FVec F S_ .f32 := constant S_ .f32 0x7F800000#32
  let main_v32 : FVec F S64x1 .f32 := broadcastInDim S64x1 ![] bcast_S_S64x1 main_cst_9
  let main_v33 : IVec S64x1 1 := cmpf .olt main_v31 main_v32
  let main_v34 : FVec F S1 .f32 := Host.absf main_arg11
  let main_cst_10 : FVec F S_ .f32 := constant S_ .f32 0x7F800000#32
  fn_part2 (F := F) main_arg2 main_v4 main_v9 main_v12 main_v15 main_v18 main_v21 main_v24 main_v27 main_v30 main_v33 main_v34 main_cst_10

def fn {F : FTy → Type} [FloatOps F] (main_arg0 : IVec S16384x200 32) (main_arg1 : IVec S16384x50x4 32) (main_arg2 : IVec S16384x50 1) (main_arg3 : FVec F S8192x32 .f32) (main_arg4 : FVec F S82x32 .f32) (main_arg5 : FVec F S81x32 .f32) (main_arg6 : FVec F S2x32 .f32) (main_arg7 : FVec F S8x32 .f32) (main_arg8 : FVec F S64x64 .f32) (main_arg9 : FVec F S64 .f32) (main_arg10 : FVec F S64x1 .f32) (main_arg11 : FVec F S1 .f32) : IVec S16384x200 1 × IVec S16384x50x4 1 × IVec S16384x50 1 × IVec S8192x32 1 × IVec S82x32 1 × IVec S81x32 1 × IVec S2x32 1 × IVec S8x32 1 × IVec S64x64 1 × IVec S64 1 × IVec S64x1 1 × IVec S1 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 2#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 32 := constantI S_ 32 0#32
  let main_v5 : IVec S16384x50x4 32 := broadcastInDim S16384x50x4 ![] bcast_S_S16384x50x4 main_c_1
  let main_v6 : IVec S16384x50x4 1 := cmpi .sge main_arg1 main_v5
  let main_c_2 : IVec S_ 32 := constantI S_ 32 2#32
  let main_v7 : IVec S16384x50x4 32 := broadcastInDim S16384x50x4 ![] bcast_S_S16384x50x4 main_c_2
  let main_v8 : IVec S16384x50x4 1 := cmpi .slt main_arg1 main_v7
  let main_v9 : IVec S16384x50x4 1 := andi main_v6 main_v8
  let main_v10 : FVec F S8192x32 .f32 := Host.absf main_arg3
  let main_cst : FVec F S_ .f32 := constant S_ .f32 0x7F800000#32
  let main_v11 : FVec F S8192x32 .f32 := broadcastInDim S8192x32 ![] bcast_S_S8192x32 main_cst
  let main_v12 : IVec S8192x32 1 := cmpf .olt main_v10 main_v11
  let main_v13 : FVec F S82x32 .f32 := Host.absf main_arg4
  let main_cst_3 : FVec F S_ .f32 := constant S_ .f32 0x7F800000#32
  let main_v14 : FVec F S82x32 .f32 := broadcastInDim S82x32 ![] bcast_S_S82x32 main_cst_3
  let main_v15 : IVec S82x32 1 := cmpf .olt main_v13 main_v14
  let main_v16 : FVec F S81x32 .f32 := Host.absf main_arg5
  let main_cst_4 : FVec F S_ .f32 := constant S_ .f32 0x7F800000#32
  fn_part1 (F := F) main_arg2 main_arg6 main_arg7 main_arg8 main_arg9 main_arg10 main_arg11 main_v4 main_v9 main_v12 main_v15 main_v16 main_cst_4
-- ==== Kernel.lean ====
abbrev S16384x200 : Shape := ⟨2, ![16384, 200]⟩
abbrev S16384x50x4 : Shape := ⟨3, ![16384, 50, 4]⟩
abbrev S16384x50 : Shape := ⟨2, ![16384, 50]⟩
abbrev S8192x32 : Shape := ⟨2, ![8192, 32]⟩
abbrev S82x32 : Shape := ⟨2, ![82, 32]⟩
abbrev S81x32 : Shape := ⟨2, ![81, 32]⟩
abbrev S2x32 : Shape := ⟨2, ![2, 32]⟩
abbrev S8x32 : Shape := ⟨2, ![8, 32]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S201x32 : Shape := ⟨2, ![201, 32]⟩
abbrev S200x50 : Shape := ⟨2, ![200, 50]⟩
abbrev S1x32 : Shape := ⟨2, ![1, 32]⟩
abbrev S32x64 : Shape := ⟨2, ![32, 64]⟩
abbrev S201x1 : Shape := ⟨2, ![201, 1]⟩
abbrev S201x64 : Shape := ⟨2, ![201, 64]⟩
abbrev S4096x200 : Shape := ⟨2, ![4096, 200]⟩
abbrev S4096x50 : Shape := ⟨2, ![4096, 50]⟩
abbrev S4096 : Shape := ⟨1, ![4096]⟩
abbrev S4096x1 : Shape := ⟨2, ![4096, 1]⟩
abbrev S4096x201 : Shape := ⟨2, ![4096, 201]⟩
abbrev S4096x32 : Shape := ⟨2, ![4096, 32]⟩
abbrev S4096x16 : Shape := ⟨2, ![4096, 16]⟩
abbrev S4096x112 : Shape := ⟨2, ![4096, 112]⟩
abbrev S4096x128 : Shape := ⟨2, ![4096, 128]⟩
abbrev S4096x78 : Shape := ⟨2, ![4096, 78]⟩
abbrev S4096x128x1 : Shape := ⟨3, ![4096, 128, 1]⟩

abbrev nBuf : Space → Nat
  | .hbm => 22
  | .vmem => 19
  | .smem => 0
  | _ => 0

abbrev bufTy : (tb : Table) → Fin (tcTables nBuf tb) → BufTy
  | .hbm, ⟨0, _⟩ => ⟨S16384x200, .i32⟩
  | .hbm, ⟨1, _⟩ => ⟨S16384x50x4, .i32⟩
  | .hbm, ⟨2, _⟩ => ⟨S16384x50, .i1⟩
  | .hbm, ⟨3, _⟩ => ⟨S8192x32, .f32⟩
  | .hbm, ⟨4, _⟩ => ⟨S82x32, .f32⟩
  | .hbm, ⟨5, _⟩ => ⟨S81x32, .f32⟩
  | .hbm, ⟨6, _⟩ => ⟨S2x32, .f32⟩
  | .hbm, ⟨7, _⟩ => ⟨S8x32, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S2x32, .f32⟩
  | .hbm, ⟨13, _⟩ => ⟨S2x32, .f32⟩
  | .hbm, ⟨14, _⟩ => ⟨S2x32, .f32⟩
  | .hbm, ⟨15, _⟩ => ⟨S2x32, .f32⟩
  | .hbm, ⟨16, _⟩ => ⟨S1x64, .f32⟩
  | .hbm, ⟨17, _⟩ => ⟨S1x1, .f32⟩
  | .hbm, ⟨18, _⟩ => ⟨S201x32, .f32⟩
  | .hbm, ⟨19, _⟩ => ⟨S200x50, .f32⟩
  | .hbm, ⟨20, _⟩ => ⟨S16384x200, .i32⟩
  | .hbm, ⟨21, _⟩ => ⟨S16384x50, .f32⟩
  | .local _ .vmem, ⟨0, _⟩ => ⟨S2x32, .f32⟩
  | .local _ .vmem, ⟨1, _⟩ => ⟨S2x32, .f32⟩
  | .local _ .vmem, ⟨2, _⟩ => ⟨S2x32, .f32⟩
  | .local _ .vmem, ⟨3, _⟩ => ⟨S2x32, .f32⟩
  | .local _ .vmem, ⟨4, _⟩ => ⟨S2x32, .f32⟩
  | .local _ .vmem, ⟨5, _⟩ => ⟨S64x64, .f32⟩
  | .local _ .vmem, ⟨6, _⟩ => ⟨S1x64, .f32⟩
  | .local _ .vmem, ⟨7, _⟩ => ⟨S64x1, .f32⟩
  | .local _ .vmem, ⟨8, _⟩ => ⟨S1x1, .f32⟩
  | .local _ .vmem, ⟨9, _⟩ => ⟨S201x32, .f32⟩
  | .local _ .vmem, ⟨10, _⟩ => ⟨S200x50, .f32⟩
  | .local _ .vmem, ⟨11, _⟩ => ⟨S4096x200, .i32⟩
  | .local _ .vmem, ⟨12, _⟩ => ⟨S4096x200, .i32⟩
  | .local _ .vmem, ⟨13, _⟩ => ⟨S4096x200, .i32⟩
  | .local _ .vmem, ⟨14, _⟩ => ⟨S4096x200, .i32⟩
  | .local _ .vmem, ⟨15, _⟩ => ⟨S201x32, .f32⟩
  | .local _ .vmem, ⟨16, _⟩ => ⟨S200x50, .f32⟩
  | .local _ .vmem, ⟨17, _⟩ => ⟨S4096x50, .f32⟩
  | .local _ .vmem, ⟨18, _⟩ => ⟨S4096x50, .f32⟩
  | _, _ => ⟨S16384x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [BitOps F]

abbrev grid0 : Pipeline.Grid := .none

abbrev stage0_0 : Fin 1 → Memref sig .tc .vmem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S201x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S200x50 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x200 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S201x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S200x50 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x50 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F]
-- ==== KernelErf.lean ====
abbrev S16384x200 : Shape := ⟨2, ![16384, 200]⟩
abbrev S16384x50x4 : Shape := ⟨3, ![16384, 50, 4]⟩
abbrev S16384x50 : Shape := ⟨2, ![16384, 50]⟩
abbrev S8192x32 : Shape := ⟨2, ![8192, 32]⟩
abbrev S82x32 : Shape := ⟨2, ![82, 32]⟩
abbrev S81x32 : Shape := ⟨2, ![81, 32]⟩
abbrev S2x32 : Shape := ⟨2, ![2, 32]⟩
abbrev S8x32 : Shape := ⟨2, ![8, 32]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S201x32 : Shape := ⟨2, ![201, 32]⟩
abbrev S200x50 : Shape := ⟨2, ![200, 50]⟩
abbrev S1x32 : Shape := ⟨2, ![1, 32]⟩
abbrev S32x64 : Shape := ⟨2, ![32, 64]⟩
abbrev S201x1 : Shape := ⟨2, ![201, 1]⟩
abbrev S201x64 : Shape := ⟨2, ![201, 64]⟩
abbrev S4096x200 : Shape := ⟨2, ![4096, 200]⟩
abbrev S4096x50 : Shape := ⟨2, ![4096, 50]⟩
abbrev S4096 : Shape := ⟨1, ![4096]⟩
abbrev S4096x1 : Shape := ⟨2, ![4096, 1]⟩
abbrev S4096x201 : Shape := ⟨2, ![4096, 201]⟩
abbrev S4096x32 : Shape := ⟨2, ![4096, 32]⟩
abbrev S4096x16 : Shape := ⟨2, ![4096, 16]⟩
abbrev S4096x112 : Shape := ⟨2, ![4096, 112]⟩
abbrev S4096x128 : Shape := ⟨2, ![4096, 128]⟩
abbrev S4096x78 : Shape := ⟨2, ![4096, 78]⟩
abbrev S4096x128x1 : Shape := ⟨3, ![4096, 128, 1]⟩

abbrev nBuf : Space → Nat
  | .hbm => 22
  | .vmem => 19
  | .smem => 0
  | _ => 0

abbrev bufTy : (tb : Table) → Fin (tcTables nBuf tb) → BufTy
  | .hbm, ⟨0, _⟩ => ⟨S16384x200, .i32⟩
  | .hbm, ⟨1, _⟩ => ⟨S16384x50x4, .i32⟩
  | .hbm, ⟨2, _⟩ => ⟨S16384x50, .i1⟩
  | .hbm, ⟨3, _⟩ => ⟨S8192x32, .f32⟩
  | .hbm, ⟨4, _⟩ => ⟨S82x32, .f32⟩
  | .hbm, ⟨5, _⟩ => ⟨S81x32, .f32⟩
  | .hbm, ⟨6, _⟩ => ⟨S2x32, .f32⟩
  | .hbm, ⟨7, _⟩ => ⟨S8x32, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S2x32, .f32⟩
  | .hbm, ⟨13, _⟩ => ⟨S2x32, .f32⟩
  | .hbm, ⟨14, _⟩ => ⟨S2x32, .f32⟩
  | .hbm, ⟨15, _⟩ => ⟨S2x32, .f32⟩
  | .hbm, ⟨16, _⟩ => ⟨S1x64, .f32⟩
  | .hbm, ⟨17, _⟩ => ⟨S1x1, .f32⟩
  | .hbm, ⟨18, _⟩ => ⟨S201x32, .f32⟩
  | .hbm, ⟨19, _⟩ => ⟨S200x50, .f32⟩
  | .hbm, ⟨20, _⟩ => ⟨S16384x200, .i32⟩
  | .hbm, ⟨21, _⟩ => ⟨S16384x50, .f32⟩
  | .local _ .vmem, ⟨0, _⟩ => ⟨S2x32, .f32⟩
  | .local _ .vmem, ⟨1, _⟩ => ⟨S2x32, .f32⟩
  | .local _ .vmem, ⟨2, _⟩ => ⟨S2x32, .f32⟩
  | .local _ .vmem, ⟨3, _⟩ => ⟨S2x32, .f32⟩
  | .local _ .vmem, ⟨4, _⟩ => ⟨S2x32, .f32⟩
  | .local _ .vmem, ⟨5, _⟩ => ⟨S64x64, .f32⟩
  | .local _ .vmem, ⟨6, _⟩ => ⟨S1x64, .f32⟩
  | .local _ .vmem, ⟨7, _⟩ => ⟨S64x1, .f32⟩
  | .local _ .vmem, ⟨8, _⟩ => ⟨S1x1, .f32⟩
  | .local _ .vmem, ⟨9, _⟩ => ⟨S201x32, .f32⟩
  | .local _ .vmem, ⟨10, _⟩ => ⟨S200x50, .f32⟩
  | .local _ .vmem, ⟨11, _⟩ => ⟨S4096x200, .i32⟩
  | .local _ .vmem, ⟨12, _⟩ => ⟨S4096x200, .i32⟩
  | .local _ .vmem, ⟨13, _⟩ => ⟨S4096x200, .i32⟩
  | .local _ .vmem, ⟨14, _⟩ => ⟨S4096x200, .i32⟩
  | .local _ .vmem, ⟨15, _⟩ => ⟨S201x32, .f32⟩
  | .local _ .vmem, ⟨16, _⟩ => ⟨S200x50, .f32⟩
  | .local _ .vmem, ⟨17, _⟩ => ⟨S4096x50, .f32⟩
  | .local _ .vmem, ⟨18, _⟩ => ⟨S4096x50, .f32⟩
  | _, _ => ⟨S16384x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := .none

abbrev stage0_0 : Fin 1 → Memref sig .tc .vmem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S201x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S200x50 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x200 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S201x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S200x50 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x50 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S16384x200 : Shape := ⟨2, ![16384, 200]⟩
abbrev S16384x50x4 : Shape := ⟨3, ![16384, 50, 4]⟩
abbrev S16384x50 : Shape := ⟨2, ![16384, 50]⟩
abbrev S8192x32 : Shape := ⟨2, ![8192, 32]⟩
abbrev S82x32 : Shape := ⟨2, ![82, 32]⟩
abbrev S81x32 : Shape := ⟨2, ![81, 32]⟩
abbrev S2x32 : Shape := ⟨2, ![2, 32]⟩
abbrev S8x32 : Shape := ⟨2, ![8, 32]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S16384x200x1 : Shape := ⟨3, ![16384, 200, 1]⟩
abbrev S1x1x1 : Shape := ⟨3, ![1, 1, 1]⟩
abbrev S16384x200x32 : Shape := ⟨3, ![16384, 200, 32]⟩
abbrev S16384x32 : Shape := ⟨2, ![16384, 32]⟩
abbrev S16384x50x1 : Shape := ⟨3, ![16384, 50, 1]⟩
abbrev S16384x50x32 : Shape := ⟨3, ![16384, 50, 32]⟩
abbrev S16384x1x32 : Shape := ⟨3, ![16384, 1, 32]⟩
abbrev S16384x50x64 : Shape := ⟨3, ![16384, 50, 64]⟩
abbrev S1x1x64 : Shape := ⟨3, ![1, 1, 64]⟩

abbrev nBuf : Space → Nat
  | .hbm => 168
  | .vmem => 0
  | .smem => 0
  | _ => 0

abbrev hbmTy0_0 (i : Nat) : BufTy := match i % 128 with
  | 0 => ⟨S16384x200, .i32⟩
  | 1 => ⟨S16384x50x4, .i32⟩
  | 2 => ⟨S16384x50, .i1⟩
  | 3 => ⟨S8192x32, .f32⟩
  | 4 => ⟨S82x32, .f32⟩
  | 5 => ⟨S81x32, .f32⟩
  | 6 => ⟨S2x32, .f32⟩
  | 7 => ⟨S8x32, .f32⟩
  | 8 => ⟨S64x64, .f32⟩
  | 9 => ⟨S64, .f32⟩
  | 10 => ⟨S64x1, .f32⟩
  | 11 => ⟨S1, .f32⟩
  | 12 => ⟨S_, .i32⟩
  | 13 => ⟨S16384x200, .i32⟩
  | 14 => ⟨S16384x200, .i1⟩
  | 15 => ⟨S_, .i32⟩
  | 16 => ⟨S16384x200, .i32⟩
  | 17 => ⟨S16384x200, .i32⟩
  | 18 => ⟨S16384x200, .i32⟩
  | 19 => ⟨S16384x200x1, .i32⟩
  | 20 => ⟨S1, .i32⟩
  | 21 => ⟨S_, .i32⟩
  | 22 => ⟨S16384x200x1, .i32⟩
  | 23 => ⟨S16384x200x1, .i1⟩
  | 24 => ⟨S1x1x1, .i32⟩
  | 25 => ⟨S16384x200x1, .i32⟩
  | 26 => ⟨S16384x200x1, .i1⟩
  | 27 => ⟨S16384x200x1, .i1⟩
  | 28 => ⟨S_, .i1⟩
  | 29 => ⟨S16384x200, .i1⟩
  | 30 => ⟨S16384x200x32, .f32⟩
  | 31 => ⟨S16384x200x32, .i1⟩
  | 32 => ⟨S_, .f32⟩
  | 33 => ⟨S16384x200x32, .f32⟩
  | 34 => ⟨S16384x200x32, .f32⟩
  | 35 => ⟨S_, .f32⟩
  | 36 => ⟨S16384x32, .f32⟩
  | 37 => ⟨S_, .f32⟩
  | 38 => ⟨S16384x32, .f32⟩
  | 39 => ⟨S16384x32, .f32⟩
  | 40 => ⟨S16384x50x1, .i32⟩
  | 41 => ⟨S16384x50, .i32⟩
  | 42 => ⟨S_, .i32⟩
  | 43 => ⟨S16384x50, .i32⟩
  | 44 => ⟨S16384x50, .i1⟩
  | 45 => ⟨S_, .i32⟩
  | 46 => ⟨S16384x50, .i32⟩
  | 47 => ⟨S16384x50, .i32⟩
  | 48 => ⟨S16384x50, .i32⟩
  | 49 => ⟨S16384x50x1, .i32⟩
  | 50 => ⟨S1, .i32⟩
  | 51 => ⟨S_, .i32⟩
  | 52 => ⟨S16384x50x1, .i32⟩
  | 53 => ⟨S16384x50x1, .i1⟩
  | 54 => ⟨S1x1x1, .i32⟩
  | 55 => ⟨S16384x50x1, .i32⟩
  | 56 => ⟨S16384x50x1, .i1⟩
  | 57 => ⟨S16384x50x1, .i1⟩
  | 58 => ⟨S_, .i1⟩
  | 59 => ⟨S16384x50, .i1⟩
  | 60 => ⟨S16384x50x32, .f32⟩
  | 61 => ⟨S16384x50x32, .i1⟩
  | 62 => ⟨S_, .f32⟩
  | 63 => ⟨S16384x50x32, .f32⟩
  | 64 => ⟨S16384x50x32, .f32⟩
  | 65 => ⟨S16384x50x1, .i32⟩
  | 66 => ⟨S16384x50, .i32⟩
  | 67 => ⟨S_, .i32⟩
  | 68 => ⟨S16384x50, .i32⟩
  | 69 => ⟨S16384x50, .i1⟩
  | 70 => ⟨S_, .i32⟩
  | 71 => ⟨S16384x50, .i32⟩
  | 72 => ⟨S16384x50, .i32⟩
  | 73 => ⟨S16384x50, .i32⟩
  | 74 => ⟨S16384x50x1, .i32⟩
  | 75 => ⟨S1, .i32⟩
  | 76 => ⟨S_, .i32⟩
  | 77 => ⟨S16384x50x1, .i32⟩
  | 78 => ⟨S16384x50x1, .i1⟩
  | 79 => ⟨S1x1x1, .i32⟩
  | 80 => ⟨S16384x50x1, .i32⟩
  | 81 => ⟨S16384x50x1, .i1⟩
  | 82 => ⟨S16384x50x1, .i1⟩
  | 83 => ⟨S_, .i1⟩
  | 84 => ⟨S16384x50, .i1⟩
  | 85 => ⟨S16384x50x32, .f32⟩
  | 86 => ⟨S16384x50x32, .i1⟩
  | 87 => ⟨S_, .f32⟩
  | 88 => ⟨S16384x50x32, .f32⟩
  | 89 => ⟨S16384x50x32, .f32⟩
  | 90 => ⟨S16384x50x32, .f32⟩
  | 91 => ⟨S16384x50x1, .i32⟩
  | 92 => ⟨S16384x50, .i32⟩
  | 93 => ⟨S_, .i32⟩
  | 94 => ⟨S16384x50, .i32⟩
  | 95 => ⟨S16384x50, .i1⟩
  | 96 => ⟨S_, .i32⟩
  | 97 => ⟨S16384x50, .i32⟩
  | 98 => ⟨S16384x50, .i32⟩
  | 99 => ⟨S16384x50, .i32⟩
  | 100 => ⟨S16384x50x1, .i32⟩
  | 101 => ⟨S1, .i32⟩
  | 102 => ⟨S_, .i32⟩
  | 103 => ⟨S16384x50x1, .i32⟩
  | 104 => ⟨S16384x50x1, .i1⟩
  | 105 => ⟨S1x1x1, .i32⟩
  | 106 => ⟨S16384x50x1, .i32⟩
  | 107 => ⟨S16384x50x1, .i1⟩
  | 108 => ⟨S16384x50x1, .i1⟩
  | 109 => ⟨S_, .i1⟩
  | 110 => ⟨S16384x50, .i1⟩
  | 111 => ⟨S16384x50x32, .f32⟩
  | 112 => ⟨S16384x50x32, .i1⟩
  | 113 => ⟨S_, .f32⟩
  | 114 => ⟨S16384x50x32, .f32⟩
  | 115 => ⟨S16384x50x32, .f32⟩
  | 116 => ⟨S16384x50x32, .f32⟩
  | 117 => ⟨S16384x50x1, .i32⟩
  | 118 => ⟨S16384x50, .i32⟩
  | 119 => ⟨S_, .i32⟩
  | 120 => ⟨S16384x50, .i32⟩
  | 121 => ⟨S16384x50, .i1⟩
  | 122 => ⟨S_, .i32⟩
  | 123 => ⟨S16384x50, .i32⟩
  | 124 => ⟨S16384x50, .i32⟩
  | 125 => ⟨S16384x50, .i32⟩
  | 126 => ⟨S16384x50x1, .i32⟩
  | 127 => ⟨S1, .i32⟩
  | _ => ⟨S16384x200, .i32⟩

abbrev hbmTy0_1 (i : Nat) : BufTy := match i % 128 with
  | 0 => ⟨S_, .i32⟩
  | 1 => ⟨S16384x50x1, .i32⟩
  | 2 => ⟨S16384x50x1, .i1⟩
  | 3 => ⟨S1x1x1, .i32⟩
  | 4 => ⟨S16384x50x1, .i32⟩
  | 5 => ⟨S16384x50x1, .i1⟩
  | 6 => ⟨S16384x50x1, .i1⟩
  | 7 => ⟨S_, .i1⟩
  | 8 => ⟨S16384x50, .i1⟩
  | 9 => ⟨S16384x50x32, .f32⟩
  | 10 => ⟨S16384x50x32, .i1⟩
  | 11 => ⟨S_, .f32⟩
  | 12 => ⟨S16384x50x32, .f32⟩
  | 13 => ⟨S16384x50x32, .f32⟩
  | 14 => ⟨S16384x50x32, .f32⟩
  | 15 => ⟨S16384x1x32, .f32⟩
  | 16 => ⟨S16384x50x32, .f32⟩
  | 17 => ⟨S16384x50x64, .f32⟩
  | 18 => ⟨S16384x50x64, .f32⟩
  | 19 => ⟨S1x1x64, .f32⟩
  | 20 => ⟨S16384x50x64, .f32⟩
  | 21 => ⟨S16384x50x64, .f32⟩
  | 22 => ⟨S_, .f32⟩
  | 23 => ⟨S16384x50x64, .f32⟩
  | 24 => ⟨S16384x50x64, .f32⟩
  | 25 => ⟨S16384x50x64, .f32⟩
  | 26 => ⟨S_, .f32⟩
  | 27 => ⟨S16384x50x64, .f32⟩
  | 28 => ⟨S16384x50x64, .f32⟩
  | 29 => ⟨S16384x50x64, .f32⟩
  | 30 => ⟨S16384x50x64, .f32⟩
  | 31 => ⟨S16384x50x1, .f32⟩
  | 32 => ⟨S1x1x1, .f32⟩
  | 33 => ⟨S16384x50x1, .f32⟩
  | 34 => ⟨S16384x50x1, .f32⟩
  | 35 => ⟨S16384x50, .f32⟩
  | 36 => ⟨S16384x50, .i1⟩
  | 37 => ⟨S_, .f32⟩
  | 38 => ⟨S16384x50, .f32⟩
  | 39 => ⟨S16384x50, .f32⟩
  | _ => ⟨S16384x200, .i32⟩

abbrev hbmTy (i : Nat) : BufTy := match i / 128 with
  | 0 => hbmTy0_0 i
  | 1 => hbmTy0_1 i
  | _ => ⟨S16384x200, .i32⟩

abbrev bufTy : (tb : Table) → Fin (tcTables nBuf tb) → BufTy
  | .hbm, ⟨i, _⟩ => hbmTy i
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_cst_0 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v9 : Ref sig .tc := ⟨.hbm, 89, rfl⟩
abbrev main_v10 : Ref sig .tc := ⟨.hbm, 90, rfl⟩
abbrev main_v11 : Ref sig .tc := ⟨.hbm, 91, rfl⟩
abbrev main_v12 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v13 : Ref sig .tc := ⟨.hbm, 115, rfl⟩
abbrev main_v14 : Ref sig .tc := ⟨.hbm, 116, rfl⟩
abbrev main_v15 : Ref sig .tc := ⟨.hbm, 117, rfl⟩
abbrev main_v16 : Ref sig .tc := ⟨.hbm, 118, rfl⟩
abbrev main_call4_c : Ref sig .tc := ⟨.hbm, 119, rfl⟩
abbrev main_call4_v0 : Ref sig .tc := ⟨.hbm, 120, rfl⟩
abbrev main_call4_v1 : Ref sig .tc := ⟨.hbm, 121, rfl⟩
abbrev main_call4_c_0 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_call4_v5 : Ref sig .tc := ⟨.hbm, 126, rfl⟩
abbrev main_call4_c_1 : Ref sig .tc := ⟨.hbm, 127, rfl⟩
abbrev main_call4_c_2 : Ref sig .tc := ⟨.hbm, 128, rfl⟩
abbrev main_call4_v6 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_call4_v11 : Ref sig .tc := ⟨.hbm, 134, rfl⟩
abbrev main_call4_c_3 : Ref sig .tc := ⟨.hbm, 135, rfl⟩
abbrev main_call4_v12 : Ref sig .tc := ⟨.hbm, 136, rfl⟩
abbrev main_call4_v13 : Ref sig .tc := ⟨.hbm, 137, rfl⟩
abbrev main_call4_v14 : Ref sig .tc := ⟨.hbm, 138, rfl⟩
abbrev main_call4_cst : Ref sig .tc := ⟨.hbm, 139, rfl⟩
abbrev main_call4_v15 : Ref sig .tc := ⟨.hbm, 140, rfl⟩
abbrev main_v17 : Ref sig .tc := ⟨.hbm, 141, rfl⟩
abbrev main_v18 : Ref sig .tc := ⟨.hbm, 142, rfl⟩
abbrev main_v19 : Ref sig .tc := ⟨.hbm, 143, rfl⟩
abbrev main_v20 : Ref sig .tc := ⟨.hbm, 144, rfl⟩
abbrev main_v21 : Ref sig .tc := ⟨.hbm, 145, rfl⟩
abbrev main_v22 : Ref sig .tc := ⟨.hbm, 146, rfl⟩
abbrev main_v23 : Ref sig .tc := ⟨.hbm, 147, rfl⟩
abbrev main_v24 : Ref sig .tc := ⟨.hbm, 148, rfl⟩
abbrev main_v25 : Ref sig .tc := ⟨.hbm, 149, rfl⟩
abbrev main_cst_1 : Ref sig .tc := ⟨.hbm, 150, rfl⟩
abbrev main_v26 : Ref sig .tc := ⟨.hbm, 151, rfl⟩
abbrev main_v27 : Ref sig .tc := ⟨.hbm, 152, rfl⟩
abbrev main_v28 : Ref sig .tc := ⟨.hbm, 153, rfl⟩
abbrev main_cst_2 : Ref sig .tc := ⟨.hbm, 154, rfl⟩
abbrev main_v29 : Ref sig .tc := ⟨.hbm, 155, rfl⟩
abbrev main_v30 : Ref sig .tc := ⟨.hbm, 156, rfl⟩
abbrev main_v31 : Ref sig .tc := ⟨.hbm, 157, rfl⟩
abbrev main_v32 : Ref sig .tc := ⟨.hbm, 158, rfl⟩
abbrev main_v33 : Ref sig .tc := ⟨.hbm, 159, rfl⟩
abbrev main_v34 : Ref sig .tc := ⟨.hbm, 160, rfl⟩
abbrev main_v35 : Ref sig .tc := ⟨.hbm, 161, rfl⟩
abbrev main_v36 : Ref sig .tc := ⟨.hbm, 162, rfl⟩
abbrev main_v37 : Ref sig .tc := ⟨.hbm, 163, rfl⟩
abbrev main_v38 : Ref sig .tc := ⟨.hbm, 164, rfl⟩
abbrev main_cst_3 : Ref sig .tc := ⟨.hbm, 165, rfl⟩
abbrev main_call5_v0 : Ref sig .tc := ⟨.hbm, 166, rfl⟩
abbrev main_v39 : Ref sig .tc := ⟨.hbm, 167, rfl⟩

abbrev nD : Nat := 1
abbrev τ : Topo := Topo.v7x

variable {F : FTy → Type} [FloatOps F]
-- ==== ReferenceRationalIdeal.lean ====
abbrev S16384x200 : Shape := ⟨2, ![16384, 200]⟩
abbrev S16384x50x4 : Shape := ⟨3, ![16384, 50, 4]⟩
abbrev S16384x50 : Shape := ⟨2, ![16384, 50]⟩
abbrev S8192x32 : Shape := ⟨2, ![8192, 32]⟩
abbrev S82x32 : Shape := ⟨2, ![82, 32]⟩
abbrev S81x32 : Shape := ⟨2, ![81, 32]⟩
abbrev S2x32 : Shape := ⟨2, ![2, 32]⟩
abbrev S8x32 : Shape := ⟨2, ![8, 32]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S16384x200x1 : Shape := ⟨3, ![16384, 200, 1]⟩
abbrev S1x1x1 : Shape := ⟨3, ![1, 1, 1]⟩
abbrev S16384x200x32 : Shape := ⟨3, ![16384, 200, 32]⟩
abbrev S16384x32 : Shape := ⟨2, ![16384, 32]⟩
abbrev S16384x50x1 : Shape := ⟨3, ![16384, 50, 1]⟩
abbrev S16384x50x32 : Shape := ⟨3, ![16384, 50, 32]⟩
abbrev S16384x1x32 : Shape := ⟨3, ![16384, 1, 32]⟩
abbrev S16384x50x64 : Shape := ⟨3, ![16384, 50, 64]⟩
abbrev S1x1x64 : Shape := ⟨3, ![1, 1, 64]⟩

abbrev nBuf : Space → Nat
  | .hbm => 215
  | .vmem => 0
  | .smem => 0
  | _ => 0

abbrev hbmTy0_0 (i : Nat) : BufTy := match i % 128 with
  | 0 => ⟨S16384x200, .i32⟩
  | 1 => ⟨S16384x50x4, .i32⟩
  | 2 => ⟨S16384x50, .i1⟩
  | 3 => ⟨S8192x32, .f32⟩
  | 4 => ⟨S82x32, .f32⟩
  | 5 => ⟨S81x32, .f32⟩
  | 6 => ⟨S2x32, .f32⟩
  | 7 => ⟨S8x32, .f32⟩
  | 8 => ⟨S64x64, .f32⟩
  | 9 => ⟨S64, .f32⟩
  | 10 => ⟨S64x1, .f32⟩
  | 11 => ⟨S1, .f32⟩
  | 12 => ⟨S_, .i32⟩
  | 13 => ⟨S16384x200, .i32⟩
  | 14 => ⟨S16384x200, .i1⟩
  | 15 => ⟨S_, .i32⟩
  | 16 => ⟨S16384x200, .i32⟩
  | 17 => ⟨S16384x200, .i32⟩
  | 18 => ⟨S16384x200, .i32⟩
  | 19 => ⟨S16384x200x1, .i32⟩
  | 20 => ⟨S1, .i32⟩
  | 21 => ⟨S_, .i32⟩
  | 22 => ⟨S16384x200x1, .i32⟩
  | 23 => ⟨S16384x200x1, .i1⟩
  | 24 => ⟨S1x1x1, .i32⟩
  | 25 => ⟨S16384x200x1, .i32⟩
  | 26 => ⟨S16384x200x1, .i1⟩
  | 27 => ⟨S16384x200x1, .i1⟩
  | 28 => ⟨S_, .i1⟩
  | 29 => ⟨S16384x200, .i1⟩
  | 30 => ⟨S16384x200x32, .f32⟩
  | 31 => ⟨S16384x200x32, .i1⟩
  | 32 => ⟨S_, .f32⟩
  | 33 => ⟨S16384x200x32, .f32⟩
  | 34 => ⟨S16384x200x32, .f32⟩
  | 35 => ⟨S_, .f32⟩
  | 36 => ⟨S16384x32, .f32⟩
  | 37 => ⟨S_, .f32⟩
  | 38 => ⟨S16384x32, .f32⟩
  | 39 => ⟨S16384x32, .f32⟩
  | 40 => ⟨S16384x50x1, .i32⟩
  | 41 => ⟨S16384x50, .i32⟩
  | 42 => ⟨S_, .i32⟩
  | 43 => ⟨S16384x50, .i32⟩
  | 44 => ⟨S16384x50, .i1⟩
  | 45 => ⟨S_, .i32⟩
  | 46 => ⟨S16384x50, .i32⟩
  | 47 => ⟨S16384x50, .i32⟩
  | 48 => ⟨S16384x50, .i32⟩
  | 49 => ⟨S16384x50x1, .i32⟩
  | 50 => ⟨S1, .i32⟩
  | 51 => ⟨S_, .i32⟩
  | 52 => ⟨S16384x50x1, .i32⟩
  | 53 => ⟨S16384x50x1, .i1⟩
  | 54 => ⟨S1x1x1, .i32⟩
  | 55 => ⟨S16384x50x1, .i32⟩
  | 56 => ⟨S16384x50x1, .i1⟩
  | 57 => ⟨S16384x50x1, .i1⟩
  | 58 => ⟨S_, .i1⟩
  | 59 => ⟨S16384x50, .i1⟩
  | 60 => ⟨S16384x50x32, .f32⟩
  | 61 => ⟨S16384x50x32, .i1⟩
  | 62 => ⟨S_, .f32⟩
  | 63 => ⟨S16384x50x32, .f32⟩
  | 64 => ⟨S16384x50x32, .f32⟩
  | 65 => ⟨S16384x50x1, .i32⟩
  | 66 => ⟨S16384x50, .i32⟩
  | 67 => ⟨S_, .i32⟩
  | 68 => ⟨S16384x50, .i32⟩
  | 69 => ⟨S16384x50, .i1⟩
  | 70 => ⟨S_, .i32⟩
  | 71 => ⟨S16384x50, .i32⟩
  | 72 => ⟨S16384x50, .i32⟩
  | 73 => ⟨S16384x50, .i32⟩
  | 74 => ⟨S16384x50x1, .i32⟩
  | 75 => ⟨S1, .i32⟩
  | 76 => ⟨S_, .i32⟩
  | 77 => ⟨S16384x50x1, .i32⟩
  | 78 => ⟨S16384x50x1, .i1⟩
  | 79 => ⟨S1x1x1, .i32⟩
  | 80 => ⟨S16384x50x1, .i32⟩
  | 81 => ⟨S16384x50x1, .i1⟩
  | 82 => ⟨S16384x50x1, .i1⟩
  | 83 => ⟨S_, .i1⟩
  | 84 => ⟨S16384x50, .i1⟩
  | 85 => ⟨S16384x50x32, .f32⟩
  | 86 => ⟨S16384x50x32, .i1⟩
  | 87 => ⟨S_, .f32⟩
  | 88 => ⟨S16384x50x32, .f32⟩
  | 89 => ⟨S16384x50x32, .f32⟩
  | 90 => ⟨S16384x50x32, .f32⟩
  | 91 => ⟨S16384x50x1, .i32⟩
  | 92 => ⟨S16384x50, .i32⟩
  | 93 => ⟨S_, .i32⟩
  | 94 => ⟨S16384x50, .i32⟩
  | 95 => ⟨S16384x50, .i1⟩
  | 96 => ⟨S_, .i32⟩
  | 97 => ⟨S16384x50, .i32⟩
  | 98 => ⟨S16384x50, .i32⟩
  | 99 => ⟨S16384x50, .i32⟩
  | 100 => ⟨S16384x50x1, .i32⟩
  | 101 => ⟨S1, .i32⟩
  | 102 => ⟨S_, .i32⟩
  | 103 => ⟨S16384x50x1, .i32⟩
  | 104 => ⟨S16384x50x1, .i1⟩
  | 105 => ⟨S1x1x1, .i32⟩
  | 106 => ⟨S16384x50x1, .i32⟩
  | 107 => ⟨S16384x50x1, .i1⟩
  | 108 => ⟨S16384x50x1, .i1⟩
  | 109 => ⟨S_, .i1⟩
  | 110 => ⟨S16384x50, .i1⟩
  | 111 => ⟨S16384x50x32, .f32⟩
  | 112 => ⟨S16384x50x32, .i1⟩
  | 113 => ⟨S_, .f32⟩
  | 114 => ⟨S16384x50x32, .f32⟩
  | 115 => ⟨S16384x50x32, .f32⟩
  | 116 => ⟨S16384x50x32, .f32⟩
  | 117 => ⟨S16384x50x1, .i32⟩
  | 118 => ⟨S16384x50, .i32⟩
  | 119 => ⟨S_, .i32⟩
  | 120 => ⟨S16384x50, .i32⟩
  | 121 => ⟨S16384x50, .i1⟩
  | 122 => ⟨S_, .i32⟩
  | 123 => ⟨S16384x50, .i32⟩
  | 124 => ⟨S16384x50, .i32⟩
  | 125 => ⟨S16384x50, .i32⟩
  | 126 => ⟨S16384x50x1, .i32⟩
  | 127 => ⟨S1, .i32⟩
  | _ => ⟨S16384x200, .i32⟩

abbrev hbmTy0_1 (i : Nat) : BufTy := match i % 128 with
  | 0 => ⟨S_, .i32⟩
  | 1 => ⟨S16384x50x1, .i32⟩
  | 2 => ⟨S16384x50x1, .i1⟩
  | 3 => ⟨S1x1x1, .i32⟩
  | 4 => ⟨S16384x50x1, .i32⟩
  | 5 => ⟨S16384x50x1, .i1⟩
  | 6 => ⟨S16384x50x1, .i1⟩
  | 7 => ⟨S_, .i1⟩
  | 8 => ⟨S16384x50, .i1⟩
  | 9 => ⟨S16384x50x32, .f32⟩
  | 10 => ⟨S16384x50x32, .i1⟩
  | 11 => ⟨S_, .f32⟩
  | 12 => ⟨S16384x50x32, .f32⟩
  | 13 => ⟨S16384x50x32, .f32⟩
  | 14 => ⟨S16384x50x32, .f32⟩
  | 15 => ⟨S16384x1x32, .f32⟩
  | 16 => ⟨S16384x50x32, .f32⟩
  | 17 => ⟨S16384x50x64, .f32⟩
  | 18 => ⟨S16384x50x64, .f32⟩
  | 19 => ⟨S1x1x64, .f32⟩
  | 20 => ⟨S16384x50x64, .f32⟩
  | 21 => ⟨S16384x50x64, .f32⟩
  | 22 => ⟨S_, .f32⟩
  | 23 => ⟨S16384x50x64, .f32⟩
  | 24 => ⟨S16384x50x64, .f32⟩
  | 25 => ⟨S16384x50x64, .f32⟩
  | 26 => ⟨S_, .f32⟩
  | 27 => ⟨S16384x50x64, .f32⟩
  | 28 => ⟨S16384x50x64, .f32⟩
  | 29 => ⟨S_, .f32⟩
  | 30 => ⟨S16384x50x64, .f32⟩
  | 31 => ⟨S16384x50x64, .f32⟩
  | 32 => ⟨S_, .f32⟩
  | 33 => ⟨S16384x50x64, .f32⟩
  | 34 => ⟨S16384x50x64, .f32⟩
  | 35 => ⟨S_, .f32⟩
  | 36 => ⟨S16384x50x64, .f32⟩
  | 37 => ⟨S16384x50x64, .f32⟩
  | 38 => ⟨S16384x50x64, .f32⟩
  | 39 => ⟨S_, .f32⟩
  | 40 => ⟨S16384x50x64, .f32⟩
  | 41 => ⟨S16384x50x64, .f32⟩
  | 42 => ⟨S16384x50x64, .f32⟩
  | 43 => ⟨S16384x50x64, .f32⟩
  | 44 => ⟨S16384x50x64, .f32⟩
  | 45 => ⟨S_, .f32⟩
  | 46 => ⟨S16384x50x64, .f32⟩
  | 47 => ⟨S16384x50x64, .f32⟩
  | 48 => ⟨S16384x50x64, .f32⟩
  | 49 => ⟨S16384x50x64, .f32⟩
  | 50 => ⟨S16384x50x64, .f32⟩
  | 51 => ⟨S_, .f32⟩
  | 52 => ⟨S16384x50x64, .f32⟩
  | 53 => ⟨S16384x50x64, .f32⟩
  | 54 => ⟨S16384x50x64, .f32⟩
  | 55 => ⟨S16384x50x64, .f32⟩
  | 56 => ⟨S16384x50x64, .f32⟩
  | 57 => ⟨S16384x50x64, .f32⟩
  | 58 => ⟨S_, .f32⟩
  | 59 => ⟨S16384x50x64, .f32⟩
  | 60 => ⟨S16384x50x64, .f32⟩
  | 61 => ⟨S16384x50x64, .f32⟩
  | 62 => ⟨S16384x50x64, .f32⟩
  | 63 => ⟨S16384x50x64, .f32⟩
  | 64 => ⟨S16384x50x64, .f32⟩
  | 65 => ⟨S16384x50x64, .f32⟩
  | 66 => ⟨S16384x50x64, .f32⟩
  | 67 => ⟨S_, .f32⟩
  | 68 => ⟨S16384x50x64, .f32⟩
  | 69 => ⟨S16384x50x64, .f32⟩
  | 70 => ⟨S16384x50x64, .f32⟩
  | 71 => ⟨S_, .f32⟩
  | 72 => ⟨S16384x50x64, .f32⟩
  | 73 => ⟨S16384x50x64, .f32⟩
  | 74 => ⟨S16384x50x64, .f32⟩
  | 75 => ⟨S_, .f32⟩
  | 76 => ⟨S16384x50x64, .f32⟩
  | 77 => ⟨S16384x50x64, .f32⟩
  | 78 => ⟨S16384x50x1, .f32⟩
  | 79 => ⟨S1x1x1, .f32⟩
  | 80 => ⟨S16384x50x1, .f32⟩
  | 81 => ⟨S16384x50x1, .f32⟩
  | 82 => ⟨S16384x50, .f32⟩
  | 83 => ⟨S16384x50, .i1⟩
  | 84 => ⟨S_, .f32⟩
  | 85 => ⟨S16384x50, .f32⟩
  | 86 => ⟨S16384x50, .f32⟩
  | _ => ⟨S16384x200, .i32⟩

abbrev hbmTy (i : Nat) : BufTy := match i / 128 with
  | 0 => hbmTy0_0 i
  | 1 => hbmTy0_1 i
  | _ => ⟨S16384x200, .i32⟩

abbrev bufTy : (tb : Table) → Fin (tcTables nBuf tb) → BufTy
  | .hbm, ⟨i, _⟩ => hbmTy i
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_cst_0 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v9 : Ref sig .tc := ⟨.hbm, 89, rfl⟩
abbrev main_v10 : Ref sig .tc := ⟨.hbm, 90, rfl⟩
abbrev main_v11 : Ref sig .tc := ⟨.hbm, 91, rfl⟩
abbrev main_v12 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v13 : Ref sig .tc := ⟨.hbm, 115, rfl⟩
abbrev main_v14 : Ref sig .tc := ⟨.hbm, 116, rfl⟩
abbrev main_v15 : Ref sig .tc := ⟨.hbm, 117, rfl⟩
abbrev main_v16 : Ref sig .tc := ⟨.hbm, 118, rfl⟩
abbrev main_call4_c : Ref sig .tc := ⟨.hbm, 119, rfl⟩
abbrev main_call4_v0 : Ref sig .tc := ⟨.hbm, 120, rfl⟩
abbrev main_call4_v1 : Ref sig .tc := ⟨.hbm, 121, rfl⟩
abbrev main_call4_c_0 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_call4_v5 : Ref sig .tc := ⟨.hbm, 126, rfl⟩
abbrev main_call4_c_1 : Ref sig .tc := ⟨.hbm, 127, rfl⟩
abbrev main_call4_c_2 : Ref sig .tc := ⟨.hbm, 128, rfl⟩
abbrev main_call4_v6 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_call4_v11 : Ref sig .tc := ⟨.hbm, 134, rfl⟩
abbrev main_call4_c_3 : Ref sig .tc := ⟨.hbm, 135, rfl⟩
abbrev main_call4_v12 : Ref sig .tc := ⟨.hbm, 136, rfl⟩
abbrev main_call4_v13 : Ref sig .tc := ⟨.hbm, 137, rfl⟩
abbrev main_call4_v14 : Ref sig .tc := ⟨.hbm, 138, rfl⟩
abbrev main_call4_cst : Ref sig .tc := ⟨.hbm, 139, rfl⟩
abbrev main_call4_v15 : Ref sig .tc := ⟨.hbm, 140, rfl⟩
abbrev main_v17 : Ref sig .tc := ⟨.hbm, 141, rfl⟩
abbrev main_v18 : Ref sig .tc := ⟨.hbm, 142, rfl⟩
abbrev main_v19 : Ref sig .tc := ⟨.hbm, 143, rfl⟩
abbrev main_v20 : Ref sig .tc := ⟨.hbm, 144, rfl⟩
abbrev main_v21 : Ref sig .tc := ⟨.hbm, 145, rfl⟩
abbrev main_v22 : Ref sig .tc := ⟨.hbm, 146, rfl⟩
abbrev main_v23 : Ref sig .tc := ⟨.hbm, 147, rfl⟩
abbrev main_v24 : Ref sig .tc := ⟨.hbm, 148, rfl⟩
abbrev main_v25 : Ref sig .tc := ⟨.hbm, 149, rfl⟩
abbrev main_cst_1 : Ref sig .tc := ⟨.hbm, 150, rfl⟩
abbrev main_v26 : Ref sig .tc := ⟨.hbm, 151, rfl⟩
abbrev main_v27 : Ref sig .tc := ⟨.hbm, 152, rfl⟩
abbrev main_v28 : Ref sig .tc := ⟨.hbm, 153, rfl⟩
abbrev main_cst_2 : Ref sig .tc := ⟨.hbm, 154, rfl⟩
abbrev main_v29 : Ref sig .tc := ⟨.hbm, 155, rfl⟩
abbrev main_v30 : Ref sig .tc := ⟨.hbm, 156, rfl⟩
abbrev main_cst_3 : Ref sig .tc := ⟨.hbm, 157, rfl⟩
abbrev main_v31 : Ref sig .tc := ⟨.hbm, 158, rfl⟩
abbrev main_v32 : Ref sig .tc := ⟨.hbm, 159, rfl⟩
abbrev main_cst_4 : Ref sig .tc := ⟨.hbm, 160, rfl⟩
abbrev main_v33 : Ref sig .tc := ⟨.hbm, 161, rfl⟩
abbrev main_v34 : Ref sig .tc := ⟨.hbm, 162, rfl⟩
abbrev main_cst_5 : Ref sig .tc := ⟨.hbm, 163, rfl⟩
abbrev main_v35 : Ref sig .tc := ⟨.hbm, 164, rfl⟩
abbrev main_v36 : Ref sig .tc := ⟨.hbm, 165, rfl⟩
abbrev main_v37 : Ref sig .tc := ⟨.hbm, 166, rfl⟩
abbrev main_cst_6 : Ref sig .tc := ⟨.hbm, 167, rfl⟩
abbrev main_v38 : Ref sig .tc := ⟨.hbm, 168, rfl⟩
abbrev main_v39 : Ref sig .tc := ⟨.hbm, 169, rfl⟩
abbrev main_v40 : Ref sig .tc := ⟨.hbm, 170, rfl⟩
abbrev main_v41 : Ref sig .tc := ⟨.hbm, 171, rfl⟩
abbrev main_v42 : Ref sig .tc := ⟨.hbm, 172, rfl⟩
abbrev main_cst_7 : Ref sig .tc := ⟨.hbm, 173, rfl⟩
abbrev main_v43 : Ref sig .tc := ⟨.hbm, 174, rfl⟩
abbrev main_v44 : Ref sig .tc := ⟨.hbm, 175, rfl⟩
abbrev main_v45 : Ref sig .tc := ⟨.hbm, 176, rfl⟩
abbrev main_v46 : Ref sig .tc := ⟨.hbm, 177, rfl⟩
abbrev main_v47 : Ref sig .tc := ⟨.hbm, 178, rfl⟩
abbrev main_cst_8 : Ref sig .tc := ⟨.hbm, 179, rfl⟩
abbrev main_v48 : Ref sig .tc := ⟨.hbm, 180, rfl⟩
abbrev main_v49 : Ref sig .tc := ⟨.hbm, 181, rfl⟩
abbrev main_v50 : Ref sig .tc := ⟨.hbm, 182, rfl⟩
abbrev main_v51 : Ref sig .tc := ⟨.hbm, 183, rfl⟩
abbrev main_v52 : Ref sig .tc := ⟨.hbm, 184, rfl⟩
abbrev main_v53 : Ref sig .tc := ⟨.hbm, 185, rfl⟩
abbrev main_cst_9 : Ref sig .tc := ⟨.hbm, 186, rfl⟩
abbrev main_v54 : Ref sig .tc := ⟨.hbm, 187, rfl⟩
abbrev main_v55 : Ref sig .tc := ⟨.hbm, 188, rfl⟩
abbrev main_v56 : Ref sig .tc := ⟨.hbm, 189, rfl⟩
abbrev main_v57 : Ref sig .tc := ⟨.hbm, 190, rfl⟩
abbrev main_v58 : Ref sig .tc := ⟨.hbm, 191, rfl⟩
abbrev main_v59 : Ref sig .tc := ⟨.hbm, 192, rfl⟩
abbrev main_v60 : Ref sig .tc := ⟨.hbm, 193, rfl⟩
abbrev main_v61 : Ref sig .tc := ⟨.hbm, 194, rfl⟩
abbrev main_cst_10 : Ref sig .tc := ⟨.hbm, 195, rfl⟩
abbrev main_v62 : Ref sig .tc := ⟨.hbm, 196, rfl⟩
abbrev main_v63 : Ref sig .tc := ⟨.hbm, 197, rfl⟩
abbrev main_v64 : Ref sig .tc := ⟨.hbm, 198, rfl⟩
abbrev main_cst_11 : Ref sig .tc := ⟨.hbm, 199, rfl⟩
abbrev main_v65 : Ref sig .tc := ⟨.hbm, 200, rfl⟩
abbrev main_v66 : Ref sig .tc := ⟨.hbm, 201, rfl⟩
abbrev main_v67 : Ref sig .tc := ⟨.hbm, 202, rfl⟩
abbrev main_cst_12 : Ref sig .tc := ⟨.hbm, 203, rfl⟩
abbrev main_v68 : Ref sig .tc := ⟨.hbm, 204, rfl⟩
abbrev main_v69 : Ref sig .tc := ⟨.hbm, 205, rfl⟩
abbrev main_v70 : Ref sig .tc := ⟨.hbm, 206, rfl⟩
abbrev main_v71 : Ref sig .tc := ⟨.hbm, 207, rfl⟩
abbrev main_v72 : Ref sig .tc := ⟨.hbm, 208, rfl⟩
abbrev main_v73 : Ref sig .tc := ⟨.hbm, 209, rfl⟩
abbrev main_v74 : Ref sig .tc := ⟨.hbm, 210, rfl⟩
abbrev main_v75 : Ref sig .tc := ⟨.hbm, 211, rfl⟩
abbrev main_cst_13 : Ref sig .tc := ⟨.hbm, 212, rfl⟩
abbrev main_call5_v0 : Ref sig .tc := ⟨.hbm, 213, rfl⟩
abbrev main_v76 : Ref sig .tc := ⟨.hbm, 214, rfl⟩

abbrev nD : Nat := 1
abbrev τ : Topo := Topo.v7x

variable {F : FTy → Type} [FloatOps F]
-- ==== Proof.Table.lean ====
/- The table kernel's first output as a family of columns.  The generated frame states the 201×32 table as thirty-two
   stores, each payload cut at other places; here one column is stated once, for any float values, over the code it
   belongs to (a number below 16, whose four bits pick a row of each move table) and the activation, and the table is
   shown to be the family of these columns, for the program that approximates erf and for the one that takes erf. -/
module

public import proofs.«01_k».proof.Proof.Gen.KernelIdeal.Frame
public import proofs.«01_k».proof.Proof.Gen.KernelErfIdeal.Frame

@[expose] public section

set_option maxRecDepth 16384

noncomputable section

namespace Cert.Table

open Idealize.ShloMosaic Cert.KernelIdeal Cert.KernelIdeal.Facts₀

variable {F : FTy → Type} [FloatOps F] [Cert.KernelIdeal.Facts₀]

/-- Row `b` of a two-row table, `b` the remainder of a number by two. -/
abbrev rowRect (b : ℕ) : Rect S2x32 :=
  Rect.unit (s := S2x32) ![b % 2, 0] S1x32.size (fun a => by
    match a with
    | ⟨0, _⟩ => show b % 2 + 1 ≤ 2; omega
    | ⟨1, _⟩ => show 0 + 32 ≤ 32; omega)

/-- Before the activation, for every count `r` and hidden unit `j`: the mean token embedding of a position with `r` ones
    times the upper half of the first weights, plus the move embedding of code `c` times the lower half, plus the bias. -/
def hidden (x0 x1 x2 x3 x4 : Vec F S2x32 .f32) (x5 : Vec F S64x64 .f32) (x6 : Vec F S1x64 .f32) (c : ℕ) :
    FVec F S201x64 .f32 :=
  have p0 : FVec F S1x32 .f32 := shapeCast S1x32 (View.ld x0 Gen.r0_0) shapeCasts_S1x32_S1x32
  have p1 : FVec F S1x32 .f32 := shapeCast S1x32 (View.ld x0 Gen.r0_1) shapeCasts_S1x32_S1x32
  have cnt : FVec F S201x1 .f32 := sitofp .f32 (iota .tc S201x1 32 [0] iota_S201x1_d0_w32)
  have rest : FVec F S201x1 .f32 := subf (broadcast S201x1 (Scalar.ofBits .f32 0x43480000#32)) cnt
  have pos : FVec F S201x32 .f32 :=
    divf (addf (mulf (broadcastTo S201x32 cnt broadcasts_S201x1_S201x32) (broadcastTo S201x32 p1 broadcasts_S1x32_S201x32))
        (mulf (broadcastTo S201x32 rest broadcasts_S201x1_S201x32) (broadcastTo S201x32 p0 broadcasts_S1x32_S201x32)))
      (broadcast S201x32 (Scalar.ofBits .f32 0x43480000#32))
  have mv : FVec F S1x32 .f32 :=
    addf (addf (addf (shapeCast S1x32 (View.ld x1 (rowRect c)) shapeCasts_S1x32_S1x32)
        (shapeCast S1x32 (View.ld x2 (rowRect (c / 2))) shapeCasts_S1x32_S1x32))
        (View.ld x3 (rowRect (c / 4))))
      (shapeCast S1x32 (View.ld x4 (rowRect (c / 8))) shapeCasts_S1x32_S1x32)
  addf (matmul dot_S201x32_S32x64_S201x64_1_0_0_1_n_n none pos (View.ld x5 Gen.r0_2) (constant S201x64 .f32 0x00000000#32))
    (broadcastTo S201x64
      (addf (matmul dot_S1x32_S32x64_S1x64_1_0_0_1_n_n none mv (View.ld x5 Gen.r0_3) (constant S1x64 .f32 0x00000000#32))
        (shapeCast S1x64 (View.ld x6 Gen.r0_5) shapeCasts_S1x64_S1x64)) broadcasts_S1x64_S201x64)

/-- The rational approximation of erf that the kernel computes (formula 7.1.26 of Abramowitz and Stegun, by Horner). -/
def erfRat (x : FVec F S201x64 .f32) : FVec F S201x64 .f32 :=
  have ax : FVec F S201x64 .f32 := absf x
  have one : FVec F S201x64 .f32 := broadcast S201x64 (Scalar.ofBits .f32 0x3F800000#32)
  have zero : FVec F S201x64 .f32 := broadcast S201x64 (Scalar.ofBits .f32 0x00000000#32)
  have t : FVec F S201x64 .f32 :=
    divf one (addf one (mulf (broadcast S201x64 (Scalar.ofBits .f32 0x3EA7BA05#32)) ax))
  have q5 : FVec F S201x64 .f32 :=
    subf (mulf (broadcast S201x64 (Scalar.ofBits .f32 0x3F87DC22#32)) t) (broadcast S201x64 (Scalar.ofBits .f32 0x3FBA00E3#32))
  have q4 : FVec F S201x64 .f32 := addf (mulf q5 t) (broadcast S201x64 (Scalar.ofBits .f32 0x3FB5F0E3#32))
  have q3 : FVec F S201x64 .f32 := subf (mulf q4 t) (broadcast S201x64 (Scalar.ofBits .f32 0x3E91A98E#32))
  have q2 : FVec F S201x64 .f32 := addf (mulf q3 t) (broadcast S201x64 (Scalar.ofBits .f32 0x3E827906#32))
  have y : FVec F S201x64 .f32 := subf one (mulf (mulf q2 t) (exp (mulf (subf zero ax) ax)))
  have sg : FVec F S201x64 .f32 :=
    select (cmpf .olt x (constant S201x64 .f32 0x00000000#32)) (constant S201x64 .f32 0xBF800000#32)
      (constant S201x64 .f32 0x3F800000#32)
  mulf (select (cmpf .ogt (absf x) zero) sg x) y

/-- The activation over a given erf: `(0.5 · h) · (1 + erf (h · 2^(-1/2)))`. -/
def gelu (e : FVec F S201x64 .f32 → FVec F S201x64 .f32) (h : FVec F S201x64 .f32) : FVec F S201x64 .f32 :=
  mulf (mulf (broadcast S201x64 (Scalar.ofBits .f32 0x3F000000#32)) h)
    (addf (broadcast S201x64 (Scalar.ofBits .f32 0x3F800000#32))
      (e (mulf h (broadcast S201x64 (Scalar.ofBits .f32 0x3F3504F3#32)))))

/-- The column of code `c` over an activation `g`: the second layer. -/
def column (g : FVec F S201x64 .f32 → FVec F S201x64 .f32) (x0 x1 x2 x3 x4 : Vec F S2x32 .f32) (x5 : Vec F S64x64 .f32)
    (x6 : Vec F S1x64 .f32) (x7 : Vec F S64x1 .f32) (x8 : Vec F S1x1 .f32) (c : ℕ) : FVec F S201x1 .f32 :=
  addf (matmul dot_S201x64_S64x1_S201x1_1_0_0_1_n_n none (g (hidden x0 x1 x2 x3 x4 x5 x6 c)) (View.ld x7 Gen.r0_4)
      (constant S201x1 .f32 0x00000000#32))
    (broadcastTo S201x1 (shapeCast S1x1 (View.ld x8 Gen.r0_6) shapeCasts_S1x1_S1x1) broadcasts_S1x1_S201x1)

/-- The column rounded to bf16 and back. -/
def high (col : FVec F S201x1 .f32) : FVec F S201x1 .f32 := extf .f32 (truncf .bf16 col bitsLt_bf16_f32) bitsLt_bf16_f32

/-- What the table holds at column `16 · u + c`: the rounded column for `u = 0`, what rounding left for `u = 1`. -/
def half (col : FVec F S201x1 .f32) : ℕ → FVec F S201x1 .f32
  | 0 => high col
  | _ + 1 => subf col (high col)

/-- The code and the half of the store at place `k` of the list, last store first. -/
abbrev codeOf (k : ℕ) : ℕ := (31 - k) / 2
abbrev halfOf (k : ℕ) : ℕ := (31 - k) % 2

/-- The thirty-two stores, last first. -/
def stores (col : ℕ → FVec F S201x1 .f32) : List (View.Piece (Elt F) S201x32 .f32) :=
  List.ofFn fun k : Fin 32 => ⟨Rect.unit (s := S201x32) ![0, 16 * halfOf k + codeOf k] S201x1.size (fun a => by
    match a with
    | ⟨0, _⟩ => show 0 + 201 ≤ 201; omega
    | ⟨1, _⟩ => show 16 * halfOf k + codeOf k + 1 ≤ 32; have := k.isLt; unfold halfOf codeOf; omega),
    half (col (codeOf k)) (halfOf k)⟩

end Cert.Table

namespace Cert.KernelIdeal.Gen
open Idealize.ShloMosaic

variable {F : FTy → Type} [FloatOps F]

theorem table_eq (x0 x1 x2 x3 x4 : Vec F S2x32 .f32) (x5 : Vec F S64x64 .f32) (x6 : Vec F S1x64 .f32) (x7 : Vec F S64x1 .f32)
    (x8 : Vec F S1x1 .f32) :
    out0_9 x0 x1 x2 x3 x4 x5 x6 x7 x8
      = View.canon (Table.stores (Table.column (Table.gelu Table.erfRat) x0 x1 x2 x3 x4 x5 x6 x7 x8)) := rfl

end Cert.KernelIdeal.Gen

namespace Cert.KernelErfIdeal.Gen
open Idealize.ShloMosaic

variable {F : FTy → Type} [FloatOps F]

theorem table_eq (x0 x1 x2 x3 x4 : Vec F S2x32 .f32) (x5 : Vec F S64x64 .f32) (x6 : Vec F S1x64 .f32) (x7 : Vec F S64x1 .f32)
    (x8 : Vec F S1x1 .f32) :
    out0_9 x0 x1 x2 x3 x4 x5 x6 x7 x8
      = View.canon (Table.stores (Table.column (Table.gelu erf) x0 x1 x2 x3 x4 x5 x6 x7 x8)) := rfl

end Cert.KernelErfIdeal.Gen

end
-- ==== Proof.Spec.lean ====
/- What a logit is, on extended reals: the two-layer network at a position with `n` ones among its 200 tokens and a move
   embedding, over the activation; the two activations, as the kernel writes them and as the reference does; and that
   everything here is a real number when the tables and the weights are. -/
module

public import Idealize.ShloMosaic.Lib.Pointwise

@[expose] public section

noncomputable section

namespace Cert.Spec

open Idealize.ShloMosaic

/-! ### Real numbers among the extended reals -/

/-- An extended real that is a real number. -/
def IsReal (x : EReal) : Prop := ∃ r : ℝ, x = (r : EReal)

theorem IsReal.add {x y : EReal} : IsReal x → IsReal y → IsReal (x + y) := by
  rintro ⟨r, rfl⟩ ⟨s, rfl⟩
  exact ⟨r + s, (EReal.coe_add r s).symm⟩

theorem IsReal.sub {x y : EReal} : IsReal x → IsReal y → IsReal (x - y) := by
  rintro ⟨r, rfl⟩ ⟨s, rfl⟩
  exact ⟨r - s, (EReal.coe_sub r s).symm⟩

theorem IsReal.mul {x y : EReal} : IsReal x → IsReal y → IsReal (x * y) := by
  rintro ⟨r, rfl⟩ ⟨s, rfl⟩
  exact ⟨r * s, (EReal.coe_mul r s).symm⟩

theorem IsReal.sum {ι : Type*} (s : Finset ι) {f : ι → EReal} (h : ∀ i, IsReal (f i)) : IsReal (∑ i ∈ s, f i) := by
  classical
  induction s using Finset.induction_on with
  | empty => exact ⟨0, by simp⟩
  | insert i s hi ih => rw [Finset.sum_insert hi]; exact (h i).add ih

theorem IsReal.div {x : EReal} {y : ℝ} (hy : y ≠ 0) : IsReal x → IsReal (Ideal.div x (y : EReal)) := by
  intro hx
  rw [Ideal.div_coe hy]
  exact hx.mul ⟨_, rfl⟩

/-- What a real number and its difference with another add up to. -/
theorem IsReal.add_sub {x y : EReal} : IsReal x → IsReal y → x + (y - x) = y := by
  rintro ⟨r, rfl⟩ ⟨s, rfl⟩
  rw [← EReal.coe_sub, ← EReal.coe_add, add_sub_cancel]

/-- The constants that the programs write as words. -/
theorem ofBits_200 : Ideal.ofBits .f32 0x43480000#32 = ((200 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

/-! ### The logit -/

/-- The mean embedding of a position whose 200 tokens are `n` times row one and else row zero. -/
def meanAt (p0 p1 : Fin 32 → EReal) (n : ℕ) (k : Fin 32) : EReal :=
  Ideal.div (((n : ℝ) : EReal) * p1 k + (((200 : ℝ) : EReal) - ((n : ℝ) : EReal)) * p0 k) ((200 : ℝ) : EReal)

/-- The first layer before the activation, over the mean embedding and the move's. -/
def hiddenAt (mn mv : Fin 32 → EReal) (w1 : Fin 64 → Fin 64 → EReal) (b1 : Fin 64 → EReal) (j : Fin 64) : EReal :=
  ∑ k : Fin 32, mn k * w1 ⟨k, by omega⟩ j + (∑ k : Fin 32, mv k * w1 ⟨32 + k, by omega⟩ j + b1 j)

/-- The logit over the activation `g`. -/
def score (g : EReal → EReal) (mn mv : Fin 32 → EReal) (w1 : Fin 64 → Fin 64 → EReal) (b1 w2 : Fin 64 → EReal) (b2 : EReal) :
    EReal :=
  ∑ j : Fin 64, g (hiddenAt mn mv w1 b1 j) * w2 j + b2

/-- The mean of `n` ones and `200 - n` zeros is what summing the 200 rows and dividing gives. -/
theorem meanAt_eq {p0 p1 : Fin 32 → EReal} (h0 : ∀ k, IsReal (p0 k)) (h1 : ∀ k, IsReal (p1 k)) (t : Fin 200 → ℕ)
    (ht : ∀ l, t l < 2) (k : Fin 32) :
    Ideal.div (∑ l, if t l = 1 then p1 k else p0 k) ((200 : ℝ) : EReal) = meanAt p0 p1 (∑ l, t l) k := by
  refine congrArg (fun x => Ideal.div x _) ?_
  obtain ⟨r, hr⟩ := h0 k
  obtain ⟨s, hs⟩ := h1 k
  have e : ∀ l, (if t l = 1 then p1 k else p0 k) = (((t l : ℝ) * s + (1 - (t l : ℝ)) * r : ℝ) : EReal) := fun l => by
    have h2 : t l = 0 ∨ t l = 1 := by have := ht l; omega
    rcases h2 with h | h <;> simp [h, hr, hs]
  have cs : ∀ f : Fin 200 → ℝ, ∑ l, ((f l : ℝ) : EReal) = ((∑ l, f l : ℝ) : EReal) := fun f =>
    (map_sum (⟨⟨Real.toEReal, EReal.coe_zero⟩, EReal.coe_add⟩ : ℝ →+ EReal) f _).symm
  simp only [e]
  rw [cs, hr, hs, ← EReal.coe_sub, ← EReal.coe_mul, ← EReal.coe_mul, ← EReal.coe_add]
  refine congrArg _ ?_
  push_cast
  rw [Finset.sum_add_distrib, ← Finset.sum_mul, ← Finset.sum_mul, Finset.sum_sub_distrib]
  simp

theorem meanAt_isReal {p0 p1 : Fin 32 → EReal} (h0 : ∀ k, IsReal (p0 k)) (h1 : ∀ k, IsReal (p1 k)) (n : ℕ) (k : Fin 32) :
    IsReal (meanAt p0 p1 n k) :=
  IsReal.div (by norm_num) (.add (.mul ⟨_, rfl⟩ (h1 k)) (.mul (.sub ⟨_, rfl⟩ ⟨_, rfl⟩) (h0 k)))

theorem hiddenAt_isReal {mn mv : Fin 32 → EReal} {w1 : Fin 64 → Fin 64 → EReal} {b1 : Fin 64 → EReal}
    (hn : ∀ k, IsReal (mn k)) (hm : ∀ k, IsReal (mv k)) (hw : ∀ i j, IsReal (w1 i j)) (hb : ∀ j, IsReal (b1 j)) (j : Fin 64) :
    IsReal (hiddenAt mn mv w1 b1 j) :=
  .add (.sum _ fun k => (hn k).mul (hw _ _)) (.add (.sum _ fun k => (hm k).mul (hw _ _)) (hb j))

theorem score_isReal {g : EReal → EReal} (hg : ∀ x, IsReal x → IsReal (g x)) {mn mv : Fin 32 → EReal}
    {w1 : Fin 64 → Fin 64 → EReal} {b1 w2 : Fin 64 → EReal} {b2 : EReal}
    (hn : ∀ k, IsReal (mn k)) (hm : ∀ k, IsReal (mv k)) (hw : ∀ i j, IsReal (w1 i j)) (hb : ∀ j, IsReal (b1 j))
    (hw2 : ∀ j, IsReal (w2 j)) (hb2 : IsReal b2) : IsReal (score g mn mv w1 b1 w2 b2) :=
  .add (.sum _ fun j => (hg _ (hiddenAt_isReal hn hm hw hb j)).mul (hw2 j)) hb2

/-! ### The activations -/

/-- `1 / √2` as the programs round it. -/
abbrev rsqrt2 : EReal := Ideal.ofBits .f32 0x3F3504F3#32

theorem rsqrt2_isReal : IsReal rsqrt2 := ⟨_, by
  simp only [rsqrt2, Ideal.ofBits, Ideal.ieee]
  simp [-EReal.coe_mul]
  rfl⟩

/-- The activation over a given erf, as the kernel writes it. -/
def act (e : EReal → EReal) (h : EReal) : EReal := Ideal.ofBits .f32 0x3F000000#32 * h * (1 + e (h * rsqrt2))

theorem act_isReal {e : EReal → EReal} (he : ∀ x, IsReal x → IsReal (e x)) (h : EReal) (hh : IsReal h) : IsReal (act e h) := by
  unfold act
  rw [ofBits_half]
  exact .mul (.mul ⟨_, rfl⟩ hh) (.add ⟨1, rfl⟩ (he _ (hh.mul rsqrt2_isReal)))

theorem erf_isReal (x : EReal) (hx : IsReal x) : IsReal (Ideal.erf x) := by
  obtain ⟨r, rfl⟩ := hx
  exact ⟨_, Ideal.erf_coe r⟩

/-- The reference's exact activation is the kernel's: `erfc (-x)` is `1 + erf x`. -/
theorem gelu_eq (h : EReal) :
    Ideal.ofBits .f32 0x3F000000#32 * h * Ideal.erfc (-h * rsqrt2) = act Ideal.erf h := by
  rw [EReal.neg_mul, Ideal.erfc_neg, act]

end Cert.Spec
end
-- ==== Proof.Rational.lean ====
/- Formula 7.1.26 of Abramowitz and Stegun, as the kernel evaluates it (by Horner, the sign read from comparisons) and as the
   reference writes it (in powers, the sign by `sign`): at a real number they are the same number. -/
module

public import proofs.«01_k».proof.Proof.Spec

@[expose] public section

noncomputable section

namespace Cert.Rational

open Idealize.ShloMosaic Cert.Spec

/-- The formula's constants, as the programs round them. -/
abbrev p : EReal := Ideal.ofBits .f32 0x3EA7BA05#32
abbrev a1 : EReal := Ideal.ofBits .f32 0x3E827906#32
abbrev a2 : EReal := Ideal.ofBits .f32 0x3E91A98E#32
abbrev a3 : EReal := Ideal.ofBits .f32 0x3FB5F0E3#32
abbrev a4 : EReal := Ideal.ofBits .f32 0x3FBA00E3#32
abbrev a5 : EReal := Ideal.ofBits .f32 0x3F87DC22#32

theorem p_eq : p = ((10992133 / 2 ^ 25 : ℝ) : EReal) := by
  simp only [p, Ideal.ofBits, Ideal.ieee]
  simp [-EReal.coe_mul]
  norm_num

theorem a1_isReal : IsReal a1 := ⟨_, by simp only [a1, Ideal.ofBits, Ideal.ieee]; simp [-EReal.coe_mul]; rfl⟩
theorem a2_isReal : IsReal a2 := ⟨_, by simp only [a2, Ideal.ofBits, Ideal.ieee]; simp [-EReal.coe_mul]; rfl⟩
theorem a3_isReal : IsReal a3 := ⟨_, by simp only [a3, Ideal.ofBits, Ideal.ieee]; simp [-EReal.coe_mul]; rfl⟩
theorem a4_isReal : IsReal a4 := ⟨_, by simp only [a4, Ideal.ofBits, Ideal.ieee]; simp [-EReal.coe_mul]; rfl⟩
theorem a5_isReal : IsReal a5 := ⟨_, by simp only [a5, Ideal.ofBits, Ideal.ieee]; simp [-EReal.coe_mul]; rfl⟩

/-- The formula's variable `1 / (1 + p |x|)`. -/
def t (x : EReal) : EReal := Ideal.div 1 (1 + p * max x (-x))

/-- The formula as the kernel evaluates it. -/
def kernel (x : EReal) : EReal :=
  (if 0 < max x (-x) then (if x < 0 then Ideal.ofBits .f32 0xBF800000#32 else 1) else x) *
    (1 - ((((a5 * t x - a4) * t x + a3) * t x - a2) * t x + a1) * t x * Ideal.exp ((0 - max x (-x)) * max x (-x)))

/-- The formula as the reference writes it. -/
def reference (x : EReal) : EReal :=
  Ideal.sign x * (1 - (a1 * t x - a2 * (t x * t x) + a3 * (t x * t x * t x) - a4 * (t x * t x * (t x * t x))
    + a5 * (t x * (t x * t x * (t x * t x)))) * Ideal.exp (-(x * x)))

theorem max_neg (r : ℝ) : max (r : EReal) (-(r : EReal)) = ((|r| : ℝ) : EReal) := by
  rw [← EReal.coe_neg, abs_eq_max_neg]
  exact (EReal.coe_strictMono.monotone.map_max).symm

theorem t_isReal (r : ℝ) : IsReal (t (r : EReal)) := by
  unfold t
  rw [max_neg, p_eq, ← EReal.coe_mul, ← EReal.coe_one, ← EReal.coe_add]
  exact IsReal.div (by positivity) ⟨1, rfl⟩

theorem sign_eq (r : ℝ) : (if 0 < ((|r| : ℝ) : EReal) then (if (r : EReal) < 0 then Ideal.ofBits .f32 0xBF800000#32 else 1)
    else (r : EReal)) = ((SignType.sign r : ℝ) : EReal) := by
  rw [ofBits_neg_one]
  simp only [EReal.coe_pos, EReal.coe_neg', abs_pos]
  rcases lt_trichotomy r 0 with h | h | h
  · simp [h, h.ne]
  · simp [h]
  · simp [h, h.ne', h.le]

/-- At a real number both are the same real number. -/
theorem kernel_eq (x : EReal) (hx : IsReal x) : kernel x = reference x ∧ IsReal (reference x) := by
  obtain ⟨r, rfl⟩ := hx
  obtain ⟨s, hs⟩ := t_isReal r
  obtain ⟨b1, h1⟩ := a1_isReal
  obtain ⟨b2, h2⟩ := a2_isReal
  obtain ⟨b3, h3⟩ := a3_isReal
  obtain ⟨b4, h4⟩ := a4_isReal
  obtain ⟨b5, h5⟩ := a5_isReal
  have hsg : Ideal.sign (r : EReal) = ((SignType.sign r : ℝ) : EReal) := rfl
  unfold kernel reference
  rw [max_neg, sign_eq, hs, h1, h2, h3, h4, h5, hsg, ← EReal.coe_zero, ← EReal.coe_one]
  simp only [← EReal.coe_mul, ← EReal.coe_sub, ← EReal.coe_add, ← EReal.coe_neg, Ideal.exp_coe]
  refine ⟨congrArg _ ?_, ⟨_, rfl⟩⟩
  rw [show (0 - |r|) * |r| = -(r * r) by rw [zero_sub, neg_mul, abs_mul_abs_self]]
  ring

theorem kernel_isReal (x : EReal) (hx : IsReal x) : IsReal (kernel x) := by
  rw [(kernel_eq x hx).1]
  exact (kernel_eq x hx).2

/-- The reference's activation with the formula in erf's place is the kernel's, at a real number. -/
theorem gelu_eq (h : EReal) (hh : IsReal h) :
    h * (1 + reference (h * rsqrt2)) * Ideal.ofBits .f32 0x3F000000#32 = act kernel h := by
  unfold act
  rw [(kernel_eq _ (hh.mul rsqrt2_isReal)).1, mul_comm, mul_assoc]

end Cert.Rational
end
-- ==== Proof.TableAt.lean ====
/- The table on extended reals: the entry at count `r` and column `16 · u + c` is, for `u = 0`, the logit of a position with
   `r` ones and a move of code `c`, and for `u = 1` what that logit and its rounding differ by. -/
module

public import proofs.«01_k».proof.Proof.Table
public import proofs.«01_k».proof.Proof.Rational
public import Idealize.ShloMosaic.Lib.Pipeline.ValueKit.Tiles

@[expose] public section

set_option maxRecDepth 16384

noncomputable section

namespace Cert.Table

open Idealize.ShloMosaic Cert.KernelIdeal Cert.KernelIdeal.Facts₀ Cert.Spec

variable [Cert.KernelIdeal.Facts₀]

/-- The move embedding of code `c`: bit `t` of the code picks the row of table `t`. -/
def moveAt (x1 x2 x3 x4 : Vec Ideal S2x32 .f32) (c : ℕ) (k : Fin 32) : EReal :=
  x1 (ix2 ⟨c % 2, by omega⟩ k) + x2 (ix2 ⟨c / 2 % 2, by omega⟩ k) + x3 (ix2 ⟨c / 4 % 2, by omega⟩ k)
    + x4 (ix2 ⟨c / 8 % 2, by omega⟩ k)

theorem count_eq (r : Fin 201) : (FloatOps.sitofp FTy.f32 (BitVec.ofNat 32 (r : ℕ)) : Ideal .f32) = (((r : ℕ) : ℝ) : EReal) := by
  show (((BitVec.ofNat 32 (r : ℕ)).toInt : ℝ) : EReal) = _
  rw [BitVec.toInt_eq_toNat_of_lt (by simp; omega)]
  simp [Nat.mod_eq_of_lt (show (r : ℕ) < 4294967296 by omega)]

theorem hidden_apply (x0 x1 x2 x3 x4 : Vec Ideal S2x32 .f32) (x5 : Vec Ideal S64x64 .f32) (x6 : Vec Ideal S1x64 .f32) (c : ℕ)
    (r : Fin 201) (j : Fin 64) : hidden x0 x1 x2 x3 x4 x5 x6 c (ix2 r j)
      = hiddenAt (meanAt (fun k => x0 (ix2 0 k)) (fun k => x0 (ix2 1 k)) r) (moveAt x1 x2 x3 x4 c) (fun i j => x5 (ix2 i j))
        (fun j => x6 (ix2 0 j)) j := by
  pointwise [hidden]
  rw [count_eq, ofBits_200]
  rfl

/-- The logit of count `r` and code `c`, from the table kernel's operands. -/
def entry (g : EReal → EReal) (x0 x1 x2 x3 x4 : Vec Ideal S2x32 .f32) (x5 : Vec Ideal S64x64 .f32) (x6 : Vec Ideal S1x64 .f32)
    (x7 : Vec Ideal S64x1 .f32) (x8 : Vec Ideal S1x1 .f32) (c r : ℕ) : EReal :=
  score g (meanAt (fun k => x0 (ix2 0 k)) (fun k => x0 (ix2 1 k)) r) (moveAt x1 x2 x3 x4 c) (fun i j => x5 (ix2 i j))
    (fun j => x6 (ix2 0 j)) (fun j => x7 (ix2 j 0)) (x8 (ix2 0 0))

theorem column_apply (g : FVec Ideal S201x64 .f32 → FVec Ideal S201x64 .f32) (g' : EReal → EReal)
    (hg : ∀ x i, g x i = g' (x i)) (x0 x1 x2 x3 x4 : Vec Ideal S2x32 .f32) (x5 : Vec Ideal S64x64 .f32)
    (x6 : Vec Ideal S1x64 .f32) (x7 : Vec Ideal S64x1 .f32) (x8 : Vec Ideal S1x1 .f32) (c : ℕ) (r : Fin 201) :
    column g x0 x1 x2 x3 x4 x5 x6 x7 x8 c (ix2 r 0) = entry g' x0 x1 x2 x3 x4 x5 x6 x7 x8 c r := by
  pointwise [column, hg, hidden_apply]
  rfl

theorem gelu_erf (x : FVec Ideal S201x64 .f32) (i : S201x64.Idx) : gelu erf x i = act Ideal.erf (x i) := by
  pointwise [gelu]
  rfl

theorem gelu_rat (x : FVec Ideal S201x64 .f32) (i : S201x64.Idx) : gelu erfRat x i = act Rational.kernel (x i) := by
  pointwise [gelu, erfRat]
  rfl

theorem half_apply (col : FVec Ideal S201x1 .f32) (u : ℕ) (i : S201x1.Idx) :
    half col u i = if u = 0 then col i else col i - col i := by
  match u with
  | 0 => rfl
  | _ + 1 => rfl

/-- The stores, read at an entry: the column's store covers it, and no other does. -/
theorem stores_apply (col : ℕ → FVec Ideal S201x1 .f32) (r : Fin 201) (u : Fin 2) (c : Fin 16) :
    View.canon (stores col) (ix2 r ⟨16 * u + c, by omega⟩)
      = if (u : ℕ) = 0 then col c (ix2 r 0) else col c (ix2 r 0) - col c (ix2 r 0) := by
  refine View.canon_ofFn_unit_eq_of_forall (Val := Elt Ideal) (S := S201x32) (e := .f32) (fun k : Fin 32 => ![0, 16 * halfOf k + codeOf k]) S201x1.size _
    (fun k => half (col (codeOf k)) (halfOf k)) _ _ ?_ ?_
  · refine ⟨⟨31 - (2 * c + u), by omega⟩, fun a => ?_⟩
    match a with
    | ⟨0, _⟩ => exact ⟨Nat.zero_le _, by show (r : ℕ) < 0 + 201; omega⟩
    | ⟨1, _⟩ =>
      show 16 * halfOf (31 - (2 * c + u)) + codeOf (31 - (2 * c + u)) ≤ 16 * (u : ℕ) + c
        ∧ 16 * (u : ℕ) + c < 16 * halfOf (31 - (2 * c + u)) + codeOf (31 - (2 * c + u)) + 1
      unfold halfOf codeOf
      omega
  · intro k x hx
    have h0 : (r : ℕ) = 0 + x 0 := hx 0
    have h1 : 16 * (u : ℕ) + c = 16 * halfOf k + codeOf k + (x 1 : ℕ) := hx 1
    have h2 : (x 1 : ℕ) < 1 := (x 1).isLt
    have hc : codeOf k = c := by unfold codeOf halfOf at *; have := k.isLt; omega
    have hu : halfOf k = u := by unfold codeOf halfOf at *; have := k.isLt; omega
    have e : x = ix2 r 0 := by
      funext a
      match a with
      | ⟨0, _⟩ => exact Fin.ext (by show (x 0 : ℕ) = r; omega)
      | ⟨1, _⟩ => exact Fin.ext (by show (x 1 : ℕ) = 0; omega)
    rw [half_apply, hc, hu, e]

end Cert.Table
end
-- ==== Proof.Codes.lean ====
/- The second output of the table kernel: a 200 by 50 matrix of words made floats, whose column `i` reads the four features of
   move `i` as the bits of a number. -/
module

public import proofs.«01_k».proof.Proof.TableAt
public import Idealize.ShloMosaic.Lib.StableHlo.Predicate

@[expose] public section

set_option maxRecDepth 16384

noncomputable section

namespace Cert.Codes

open Idealize.ShloMosaic Idealize.ShloMosaic.StableHlo.Predicate Cert.KernelIdeal Cert.KernelIdeal.Gen

/-- The weight of flat feature `n` in the code of move `i`. -/
def weight (n i : ℕ) : ℕ := if n / 4 = i then 2 ^ (n % 4) else 0

/-- The word the kernel makes of the flat position: two to the power of the position modulo four. -/
theorem pow_word (n : Fin 200) (i : Fin 50) :
    k0_pay140 (k0_pay138 k0_pay136 k0_pay137) (k0_pay139 (iota .tc S200x50 32 [0] Gen.iota_S200x50_d0_w32)) 1#32 (ix2 n i)
      = BitVec.ofNat 32 (2 ^ ((n : ℕ) % 4)) := by
  unfold_payloads
  pointwise
  clear i
  revert n
  decide +kernel

/-- The word of the move that the flat position belongs to: the position divided by four. -/
theorem quot_word (n : Fin 200) (i : Fin 50) :
    (select (k0_pay142 (iota .tc S200x50 32 [0] Gen.iota_S200x50_d0_w32)) (k0_pay143 (iota .tc S200x50 32 [0] Gen.iota_S200x50_d0_w32))
      (k0_pay141 (iota .tc S200x50 32 [0] Gen.iota_S200x50_d0_w32)) : IVec S200x50 32) (ix2 n i) = BitVec.ofNat 32 ((n : ℕ) / 4) := by
  unfold_payloads
  pointwise
  clear i
  revert n
  decide +kernel

/-- A small number's word, made a float, is the number. -/
theorem ofNat_word {n : ℕ} (h : n < 2 ^ 31) : (FloatOps.sitofp (F := Ideal) FTy.f32 (BitVec.ofNat 32 n) : EReal) = ((n : ℝ) : EReal) := by
  show (((BitVec.ofNat 32 n).toInt : ℝ) : EReal) = _
  have h' : (BitVec.ofNat 32 n).toNat = n := by rw [BitVec.toNat_ofNat]; omega
  rw [BitVec.toInt_eq_toNat_of_lt (by omega), h']
  rfl

theorem weights_apply (x0 x1 x2 x3 x4 : Vec Ideal S2x32 .f32) (x5 : Vec Ideal S64x64 .f32) (x6 : Vec Ideal S1x64 .f32)
    (x7 : Vec Ideal S64x1 .f32) (x8 : Vec Ideal S1x1 .f32) (n : Fin 200) (i : Fin 50) :
    out0_10 x0 x1 x2 x3 x4 x5 x6 x7 x8 (ix2 n i) = (((weight n i : ℕ) : ℝ) : EReal) := by
  unfold_out out0_10
  rw [View.canon_unit_zero (by decide)]
  show (FloatOps.sitofp (F := Ideal) FTy.f32 (Scalar.select (IntOp.cmpi .eq ((select _ _ _ : IVec S200x50 32) (ix2 n i))
    (iota .tc S200x50 32 [1] _ (ix2 n i))) (k0_pay140 _ _ _ (ix2 n i)) 0#32) : EReal) = _
  have hi : iota .tc S200x50 32 [1] Gen.iota_S200x50_d1_w32 (ix2 n i) = BitVec.ofNat 32 (i : ℕ) := by pointwise
  erw [quot_word, pow_word, hi]
  have hn := n.isLt
  have hi := i.isLt
  by_cases h : (n : ℕ) / 4 = i
  · have e : Scalar.select (IntOp.cmpi .eq (BitVec.ofNat 32 ((n : ℕ) / 4)) (BitVec.ofNat 32 (i : ℕ)))
        (BitVec.ofNat 32 (2 ^ ((n : ℕ) % 4))) 0#32 = BitVec.ofNat 32 (2 ^ ((n : ℕ) % 4)) :=
      if_pos (by rw [h]; exact cmpi_eq_iff.mpr rfl)
    have h4 : (n : ℕ) % 4 < 4 := Nat.mod_lt _ (by decide)
    rw [e, weight, if_pos h]
    exact ofNat_word (lt_of_lt_of_le (Nat.pow_lt_pow_right (by decide) h4) (by decide))
  · have e : Scalar.select (IntOp.cmpi .eq (BitVec.ofNat 32 ((n : ℕ) / 4)) (BitVec.ofNat 32 (i : ℕ)))
        (BitVec.ofNat 32 (2 ^ ((n : ℕ) % 4))) 0#32 = BitVec.ofNat 32 0 :=
      if_neg fun hc => h (by
        have := congrArg BitVec.toNat (cmpi_eq_iff.mp hc)
        simp only [BitVec.toNat_ofNat] at this
        omega)
    rw [e, weight, if_neg h]
    exact ofNat_word (by decide)

end Cert.Codes
end
-- ==== Proof.Block.lean ====
/- The main kernel's body on a block of positions: each entry is the table read at the position's number of ones and at the
   move's code, rounded part plus remainder. -/
module

public import proofs.«01_k».proof.Proof.Codes

@[expose] public section

set_option maxRecDepth 16384

noncomputable section

namespace Cert.Block

open Idealize.ShloMosaic Idealize.ShloMosaic.StableHlo.Predicate Cert.KernelIdeal Cert.KernelIdeal.Gen Cert.Codes

/-- The flat position of feature `t` of move `i`. -/
abbrev feat (i : Fin 50) (t : Fin 4) : Fin 200 := ⟨4 * i + t, by omega⟩

/-- The code of a move from its four features. -/
def codeOf (f : Fin 4 → ℕ) : ℕ := f 0 + 2 * f 1 + 4 * f 2 + 8 * f 3

theorem codeOf_lt {f : Fin 4 → ℕ} (h : ∀ t, f t < 2) : codeOf f < 16 := by
  have := h 0; have := h 1; have := h 2; have := h 3
  unfold codeOf; omega

/-- The weighted sum over all flat positions is the code of the move. -/
theorem sum_weight (f : Fin 200 → ℕ) (i : Fin 50) : ∑ x : Fin 200, f x * weight x i = codeOf fun t => f (feat i t) := by
  have e : ∑ x : Fin 200, f x * weight x i
      = ∑ p : Fin 50 × Fin 4, f (feat p.1 p.2) * weight (feat p.1 p.2) i :=
    (Fintype.sum_equiv (finProdFinEquiv : Fin 50 × Fin 4 ≃ Fin 200) (fun p => f (feat p.1 p.2) * weight (feat p.1 p.2) i) _
      (fun p => by
        have : (finProdFinEquiv p : Fin 200) = feat p.1 p.2 := Fin.ext (by simp [finProdFinEquiv]; omega)
        rw [this])).symm
  rw [e, Fintype.sum_prod_type]
  have hw : ∀ (q : Fin 50) (t : Fin 4), weight (feat q t) i = if q = i then 2 ^ (t : ℕ) else 0 := fun q t => by
    have h1 : (4 * (q : ℕ) + t) / 4 = q := by omega
    have h2 : (4 * (q : ℕ) + t) % 4 = t := by omega
    show (if (4 * (q : ℕ) + t) / 4 = i then 2 ^ ((4 * (q : ℕ) + t) % 4) else 0) = _
    rw [h1, h2]
    simp only [Fin.ext_iff]
  simp only [hw]
  rw [Finset.sum_eq_single i (fun q _ hq => by simp [hq]) (fun h => absurd (Finset.mem_univ _) h)]
  simp only [if_true]
  rw [Fin.sum_univ_four]
  unfold codeOf
  norm_num
  ring

/-- A sum against a one-hot row picks the entry. -/
theorem onehot (w : BitVec 32) (v : Fin 201 → EReal) (hw : w.toNat < 201) :
    ∑ x : Fin 201, (FloatOps.sitofp (F := Ideal) FTy.f32 (BitVec.setWidth 32 (IntOp.cmpi .eq w (BitVec.ofNat 32 (x : ℕ)))) : EReal) * v x
      = v ⟨w.toNat, hw⟩ := by
  have hx : ∀ x : Fin 201, IntOp.cmpi .eq w (BitVec.ofNat 32 (x : ℕ)) = if x = ⟨w.toNat, hw⟩ then 1#1 else 0#1 := fun x => by
    have hlt := x.isLt
    split
    next h =>
      subst h
      exact cmpi_eq_iff.mpr (BitVec.eq_of_toNat_eq (by simp))
    next h =>
      have : ¬ IntOp.cmpi .eq w (BitVec.ofNat 32 (x : ℕ)) = 1#1 := fun hc => h (Fin.ext (by
        have := congrArg BitVec.toNat (cmpi_eq_iff.mp hc)
        simp only [BitVec.toNat_ofNat] at this
        show (x : ℕ) = w.toNat
        omega))
      revert this
      generalize IntOp.cmpi .eq w (BitVec.ofNat 32 (x : ℕ)) = z
      revert z
      decide
  rw [Finset.sum_eq_single ⟨w.toNat, hw⟩ (fun x _ h => ?_) (fun h => absurd (Finset.mem_univ _) h)]
  · rw [hx, if_pos rfl, show BitVec.setWidth 32 1#1 = BitVec.ofNat 32 1 from rfl, ofNat_word (by decide)]
    simp
  · rw [hx, if_neg h, show BitVec.setWidth 32 0#1 = BitVec.ofNat 32 0 from rfl, ofNat_word (by decide)]
    simp

/-- A small natural number, made a word, is its own word. -/
theorem word_of {n : ℕ} (h : n < 2 ^ 31) : (FloatOps.fptosi (F := Ideal) (φ := .f32) 32 ((n : ℝ) : EReal)) = BitVec.ofNat 32 n := by
  show BitVec.ofInt 32 (Ideal.toIntClamped _ _ ((n : ℝ) : EReal)) = _
  rw [Ideal.toIntClamped_coe, if_pos (Nat.cast_nonneg n), Int.floor_natCast]
  norm_num
  rw [min_eq_right (by omega)]
  exact BitVec.ofInt_natCast 32 n

/-- The wrap of negative words leaves a code as it is. -/
theorem wrap_code : ∀ c : Fin 16, (Scalar.select (IntOp.cmpi .slt (BitVec.ofNat 32 (c : ℕ)) 0#32)
    (IntOp.addi (BitVec.ofNat 32 (c : ℕ)) 128#32) (BitVec.ofNat 32 (c : ℕ))).toNat % 128 = c := by decide

theorem sum_lt {n : ℕ} {f : Fin n → ℕ} (h : ∀ l, f l < 2) : ∑ l, f l ≤ n :=
  (Finset.sum_le_sum fun l _ => Nat.lt_succ_iff.mp (h l)).trans (by simp)

theorem block_apply (a b : Vec Ideal S4096x200 .i32) (tab : Vec Ideal S201x32 .f32) (w4 : Vec Ideal S200x50 .f32) (n : Fin 4096)
    (i : Fin 50) (ha : ∀ l, (a (ix2 n l) : BitVec 32).toNat < 2) (hb : ∀ l, (b (ix2 n l) : BitVec 32).toNat < 2)
    (hw : ∀ x, w4 (ix2 x i) = (((weight x i : ℕ) : ℝ) : EReal)) :
    k1_pay1 (F := Ideal) a b tab w4 (ix2 n i)
      = tab (ix2 ⟨∑ l, (a (ix2 n l) : BitVec 32).toNat, Nat.lt_succ_iff.mpr (sum_lt ha)⟩
          ⟨codeOf fun t => (b (ix2 n (feat i t)) : BitVec 32).toNat, by have := codeOf_lt fun t => hb (feat i t); omega⟩)
        + tab (ix2 ⟨∑ l, (a (ix2 n l) : BitVec 32).toNat, Nat.lt_succ_iff.mpr (sum_lt ha)⟩
          ⟨16 + codeOf fun t => (b (ix2 n (feat i t)) : BitVec 32).toNat, by have := codeOf_lt fun t => hb (feat i t); omega⟩) := by
  have hc := codeOf_lt fun t => hb (feat i t)
  have hcode : ∑ x : Fin 200, (FloatOps.sitofp (F := Ideal) FTy.f32 (b (ix2 n x)) : EReal) * w4 (ix2 x i)
      = (((codeOf fun t => (b (ix2 n (feat i t)) : BitVec 32).toNat : ℕ) : ℝ) : EReal) := by
    rw [← sum_weight (fun x => (b (ix2 n x) : BitVec 32).toNat) i]
    have e : ∀ x : Fin 200, (FloatOps.sitofp (F := Ideal) FTy.f32 (b (ix2 n x)) : EReal) * w4 (ix2 x i)
        = ((((b (ix2 n x) : BitVec 32).toNat * weight x i : ℕ) : ℝ) : EReal) := fun x => by
      rw [hw, Nat.cast_mul, EReal.coe_mul]
      congr 1
      have := ofNat_word (n := (b (ix2 n x) : BitVec 32).toNat) (by have := hb x; omega)
      rwa [BitVec.ofNat_toNat, BitVec.setWidth_eq] at this
    simp only [e]
    rw [Nat.cast_sum]
    exact (map_sum (⟨⟨Real.toEReal, EReal.coe_zero⟩, EReal.coe_add⟩ : ℝ →+ EReal) _ _).symm
  have hcount : (Finset.fold IntOp.addi (0#32) (fun x => (a (ix2 n x) : BitVec 32)) Finset.univ).toNat
      = ∑ l, (a (ix2 n l) : BitVec 32).toNat :=
    toNat_fold_addi _ _ (lt_of_le_of_lt (sum_lt ha) (by decide))
  have hle := sum_lt ha
  pointwise [k1_pay1]
  have hwrap := wrap_code ⟨_, hc⟩
  simp only at hwrap
  simp only [hcode, word_of (lt_of_lt_of_le hc (by decide)), hwrap]
  rw [dif_pos hc]
  refine (congrArg₂ (· + ·) (onehot _ (fun x => tab (ix2 x _)) (by omega)) (onehot _ (fun x => tab (ix2 x _)) (by omega))).trans ?_
  simp only [hcount]

end Cert.Block
end
-- ==== Proof.Inputs.lean ====
/-
  The problem's twelve inputs as one record, the property of them that the value claims assume, and the logit as a plain
  formula of them: what the kernel and the reference are both shown to compute.
-/
module

public import proofs.«01_k».proof.Proof.TableAt
public import proofs.«01_k».proof.Proof.Block

@[expose] public section

set_option maxRecDepth 16384

noncomputable section

namespace Cert.Inputs

open Idealize.ShloMosaic Cert.KernelIdeal Cert.Spec

/-- The arguments, in order: the tokens of the position, the four features of each move, the mask of the legal moves,
    the five embedding tables, the two layers' weights and biases. -/
structure Args where
  ids : Vec Ideal S16384x200 .i32
  feats : Vec Ideal S16384x50x4 .i32
  mask : Vec Ideal S16384x50 .i1
  pos : Vec Ideal S8192x32 .f32
  start : Vec Ideal S82x32 .f32
  stop : Vec Ideal S81x32 .f32
  promo : Vec Ideal S2x32 .f32
  drop : Vec Ideal S8x32 .f32
  w1 : Vec Ideal S64x64 .f32
  b1 : Vec Ideal S64 .f32
  w2 : Vec Ideal S64x1 .f32
  b2 : Vec Ideal S1 .f32

/-- What is assumed of them: tokens and features zero or one, every move legal, the floats finite. -/
structure Args.Drawn (a : Args) : Prop where
  ids : ∀ i, (a.ids i : BitVec 32).toNat < 2
  feats : ∀ i, (a.feats i : BitVec 32).toNat < 2
  mask : ∀ i, a.mask i = 1#1
  pos : ∀ i, IsReal (a.pos i)
  start : ∀ i, IsReal (a.start i)
  stop : ∀ i, IsReal (a.stop i)
  promo : ∀ i, IsReal (a.promo i)
  drop : ∀ i, IsReal (a.drop i)
  w1 : ∀ i, IsReal (a.w1 i)
  b1 : ∀ i, IsReal (a.b1 i)
  w2 : ∀ i, IsReal (a.w2 i)
  b2 : ∀ i, IsReal (a.b2 i)

/-- How many of a position's tokens are one. -/
def count (a : Args) (p : Fin 16384) : ℕ := ∑ l : Fin 200, (a.ids (ix2 p l) : BitVec 32).toNat

/-- Feature `t` of a move, as a row number of its table. -/
def bit (a : Args) (p : Fin 16384) (i : Fin 50) (t : Fin 4) : ℕ := (a.feats (ix3 p i t) : BitVec 32).toNat % 2

theorem bit_lt (a : Args) (p : Fin 16384) (i : Fin 50) (t : Fin 4) : bit a p i t < 2 := Nat.mod_lt _ (by decide)

/-- The move's embedding: the sum of its four rows. -/
def moveOf (a : Args) (p : Fin 16384) (i : Fin 50) (k : Fin 32) : EReal :=
  a.start (ix2 ⟨bit a p i 0, by have := bit_lt a p i 0; omega⟩ k) + a.stop (ix2 ⟨bit a p i 1, by have := bit_lt a p i 1; omega⟩ k)
    + a.promo (ix2 ⟨bit a p i 2, bit_lt a p i 2⟩ k) + a.drop (ix2 ⟨bit a p i 3, by have := bit_lt a p i 3; omega⟩ k)

/-- The position's embedding: the mean of its tokens' rows. -/
def meanOf (a : Args) (p : Fin 16384) (k : Fin 32) : EReal :=
  meanAt (fun k => a.pos (ix2 0 k)) (fun k => a.pos (ix2 1 k)) (count a p) k

/-- The first layer. -/
def hiddenOf (a : Args) (p : Fin 16384) (i : Fin 50) (j : Fin 64) : EReal :=
  hiddenAt (meanOf a p) (moveOf a p i) (fun i j => a.w1 (ix2 i j)) (fun j => a.b1 (ix1 j)) j

/-- The logit of move `i` of position `p`, the activation over a given erf. -/
def logit (e : EReal → EReal) (a : Args) (p : Fin 16384) (i : Fin 50) : EReal :=
  ∑ j : Fin 64, act e (hiddenOf a p i j) * a.w2 (ix2 j 0) + a.b2 (ix1 0)

theorem meanOf_isReal {a : Args} (h : a.Drawn) (p : Fin 16384) (k : Fin 32) : IsReal (meanOf a p k) :=
  meanAt_isReal (fun _ => h.pos _) (fun _ => h.pos _) _ k

theorem moveOf_isReal {a : Args} (h : a.Drawn) (p : Fin 16384) (i : Fin 50) (k : Fin 32) : IsReal (moveOf a p i k) :=
  (((h.start _).add (h.stop _)).add (h.promo _)).add (h.drop _)

theorem hiddenOf_isReal {a : Args} (h : a.Drawn) (p : Fin 16384) (i : Fin 50) (j : Fin 64) : IsReal (hiddenOf a p i j) :=
  hiddenAt_isReal (meanOf_isReal h p) (moveOf_isReal h p i) (fun _ _ => h.w1 _) (fun _ => h.b1 _) j

theorem logit_isReal {a : Args} (h : a.Drawn) {e : EReal → EReal} (he : ∀ x, IsReal x → IsReal (e x)) (p : Fin 16384) (i : Fin 50) :
    IsReal (logit e a p i) :=
  .add (.sum _ fun j => (act_isReal he _ (hiddenOf_isReal h p i j)).mul (h.w2 _)) (h.b2 _)

/-- All the logits. -/
def result (e : EReal → EReal) (a : Args) : Vec Ideal S16384x50 .f32 := fun x => logit e a (x 0) (x 1)

/-- An array with every logit in its place is `result`. -/
theorem eq_result {e : EReal → EReal} {a : Args} {X : Vec Ideal S16384x50 .f32} (h : ∀ p i, X (ix2 p i) = logit e a p i) :
    X = result e a := by
  funext x
  have hx : x = ix2 (x 0) (x 1) := by
    funext b
    match b with
    | ⟨0, _⟩ => rfl
    | ⟨1, _⟩ => rfl
  rw [hx]
  exact h _ _

/-- A drawn feature is its row number. -/
theorem bit_eq {a : Args} (h : a.Drawn) (p : Fin 16384) (i : Fin 50) (t : Fin 4) :
    bit a p i t = (a.feats (ix3 p i t) : BitVec 32).toNat := Nat.mod_eq_of_lt (h.feats _)

end Cert.Inputs

end
-- ==== Proof.KernelAt.lean ====
/-
  What the kernel's table and its lookups compute, over the problem's inputs.

  The table kernel's operands are slices and reshapes of the inputs. Its entry at count `r` and code `c` is the logit of
  any move with that count and that code (`entry_eq`). The lookup kernel adds an entry's two halves, the second being
  zero over the reals, so its block holds the logits (`lookup_apply`).
-/
module

public import proofs.«01_k».proof.Proof.Inputs
public import proofs.«01_k».proof.Proof.Codes

@[expose] public section

set_option maxRecDepth 16384

noncomputable section

namespace Cert.KernelAt

open Idealize.ShloMosaic Cert.KernelIdeal Cert.KernelIdeal.Facts₀ Cert.Spec Cert.Inputs
open Cert.Block (codeOf codeOf_lt feat)

variable [Cert.KernelIdeal.Facts₀]

/-- What the host hands the table kernel. -/
abbrev posTab (a : Args) : Vec Ideal S2x32 .f32 := extractStridedSlice S2x32 ![0, 0] a.pos slices_S8192x32_S2x32_0_0
abbrev startTab (a : Args) : Vec Ideal S2x32 .f32 := extractStridedSlice S2x32 ![0, 0] a.start slices_S82x32_S2x32_0_0
abbrev stopTab (a : Args) : Vec Ideal S2x32 .f32 := extractStridedSlice S2x32 ![0, 0] a.stop slices_S81x32_S2x32_0_0
abbrev dropTab (a : Args) : Vec Ideal S2x32 .f32 := extractStridedSlice S2x32 ![0, 0] a.drop slices_S8x32_S2x32_0_0
abbrev bias1 (a : Args) : Vec Ideal S1x64 .f32 := shapeCast S1x64 a.b1 shapeCasts_S64_S1x64
abbrev bias2 (a : Args) : Vec Ideal S1x1 .f32 := shapeCast S1x1 a.b2 shapeCasts_S1_S1x1
/-- The features of a position in one row. -/
abbrev flatFeats (a : Args) : Vec Ideal S16384x200 .i32 := shapeCast S16384x200 a.feats shapeCasts_S16384x50x4_S16384x200

/-- The table's entry at the count and the code of a move is the move's logit. -/
theorem entry_eq (e : EReal → EReal) (a : Args) (p : Fin 16384) (i : Fin 50) :
    Table.entry (act e) (posTab a) (startTab a) (stopTab a) a.promo (dropTab a) a.w1 (bias1 a) a.w2 (bias2 a)
      (codeOf fun t => bit a p i t) (count a p) = logit e a p i := by
  have h0 := bit_lt a p i 0
  have h1 := bit_lt a p i 1
  have h2 := bit_lt a p i 2
  have h3 := bit_lt a p i 3
  have hc : (codeOf fun t => bit a p i t) = bit a p i 0 + 2 * bit a p i 1 + 4 * bit a p i 2 + 8 * bit a p i 3 := rfl
  have e0 : (codeOf fun t => bit a p i t) % 2 = bit a p i 0 := by rw [hc]; omega
  have e1 : (codeOf fun t => bit a p i t) / 2 % 2 = bit a p i 1 := by rw [hc]; omega
  have e2 : (codeOf fun t => bit a p i t) / 4 % 2 = bit a p i 2 := by rw [hc]; omega
  have e3 : (codeOf fun t => bit a p i t) / 8 % 2 = bit a p i 3 := by rw [hc]; omega
  have hm : ∀ k, Table.moveAt (startTab a) (stopTab a) a.promo (dropTab a) (codeOf fun t => bit a p i t) k = moveOf a p i k := by
    intro k
    simp only [Table.moveAt, e0, e1, e2, e3]
    pointwise []
    rfl
  have hn : ∀ r k, (posTab a) (ix2 r k) = a.pos (ix2 ⟨r, by omega⟩ k) := by
    intro r k
    pointwise []
  unfold Table.entry logit hiddenOf score
  rw [funext hm]
  simp only [hn]
  pointwise []
  rfl

/-- Feature `t` of move `i` is element `4 i + t` of the position's row. -/
theorem flatFeats_apply (a : Args) (p : Fin 16384) (i : Fin 50) (t : Fin 4) : flatFeats a (ix2 p (feat i t)) = a.feats (ix3 p i t) := by
  have e1 : (4 * (i : ℕ) + t) / 4 = i := by omega
  have e2 : (4 * (i : ℕ) + t) % 4 = t := by omega
  pointwise []
  exact congrArg a.feats (congrArg₂ (ix3 p) (Fin.ext e1) (Fin.ext e2))

/-- Every element of the row is such a feature. -/
theorem flatFeats_lt {a : Args} (h : a.Drawn) (p : Fin 16384) (l : Fin 200) : (flatFeats a (ix2 p l) : BitVec 32).toNat < 2 := by
  have e : l = feat ⟨l / 4, by omega⟩ ⟨l % 4, by omega⟩ := Fin.ext (by show (l : ℕ) = 4 * (l / 4) + l % 4; omega)
  rw [e, flatFeats_apply]
  exact h.feats _

/-- What the lookup kernel leaves in a block at a row whose ids and features are position `p`'s: the logit. `g` is the
    activation that the table kernel applies, `act e` elementwise. -/
theorem lookup_apply {e : EReal → EReal} (he : ∀ x, IsReal x → IsReal (e x)) {g : FVec Ideal S201x64 .f32 → FVec Ideal S201x64 .f32}
    (hg : ∀ x i, g x i = act e (x i)) {a : Args} (h : a.Drawn) (p : Fin 16384) (i : Fin 50) (n : Fin 4096)
    {A B : Vec Ideal S4096x200 .i32} (hA : ∀ l, A (ix2 n l) = a.ids (ix2 p l)) (hB : ∀ l, B (ix2 n l) = flatFeats a (ix2 p l)) :
    Gen.k1_pay1 (F := Ideal) A B
        (View.canon (Table.stores (Table.column g (posTab a) (startTab a) (stopTab a) a.promo (dropTab a) a.w1 (bias1 a) a.w2 (bias2 a))))
        (Gen.out0_10 (posTab a) (startTab a) (stopTab a) a.promo (dropTab a) a.w1 (bias1 a) a.w2 (bias2 a)) (ix2 n i)
      = logit e a p i := by
  have ha : ∀ l, (A (ix2 n l) : BitVec 32).toNat < 2 := fun l => by rw [hA]; exact h.ids _
  have hb : ∀ l, (B (ix2 n l) : BitVec 32).toNat < 2 := fun l => by rw [hB]; exact flatFeats_lt h p l
  have hr : ∑ l, (A (ix2 n l) : BitVec 32).toNat = count a p := by simp only [hA]; rfl
  have hc : (codeOf fun t => (B (ix2 n (feat i t)) : BitVec 32).toNat) = codeOf fun t => bit a p i t :=
    congrArg codeOf (funext fun t => by rw [hB, flatFeats_apply, bit_eq h])
  have hlt := codeOf_lt fun t => bit_lt a p i t
  have hcount : count a p < 201 := Nat.lt_succ_iff.mpr (Block.sum_lt fun l => h.ids _)
  refine (Block.block_apply A B _ _ n i ha hb fun x => Codes.weights_apply _ _ _ _ _ _ _ _ _ x i).trans ?_
  simp only [hr, hc]
  have hcol := (Table.column_apply g (act e) hg (posTab a) (startTab a) (stopTab a) a.promo (dropTab a) a.w1 (bias1 a) a.w2 (bias2 a)
    (codeOf fun t => bit a p i t) ⟨count a p, hcount⟩).trans (entry_eq e a p i)
  have lo := (Table.stores_apply (Table.column g (posTab a) (startTab a) (stopTab a) a.promo (dropTab a) a.w1 (bias1 a) a.w2 (bias2 a))
    ⟨count a p, hcount⟩ 0 ⟨codeOf fun t => bit a p i t, hlt⟩).trans ((if_pos rfl).trans hcol)
  have hi := (Table.stores_apply (Table.column g (posTab a) (startTab a) (stopTab a) a.promo (dropTab a) a.w1 (bias1 a) a.w2 (bias2 a))
    ⟨count a p, hcount⟩ 1 ⟨codeOf fun t => bit a p i t, hlt⟩).trans ((if_neg (by decide)).trans (congrArg₂ (· - ·) hcol hcol))
  have hL := logit_isReal h he p i
  refine (congrArg₂ (· + ·) ((congrArg _ (congrArg _ (Fin.ext (by simp)))).trans lo) hi).trans ?_
  exact hL.add_sub hL

end Cert.KernelAt

end
-- ==== Proof.LaunchRational.lean ====
/-
  The launch of `KernelIdeal`: what the program's run leaves in its result array, as an equation about one block.

  `run` is the program's frame with one conjunct more: the result array ends as the second region's output window
  leaves it. The rest of the module opens that array. The host prepares nine small arrays (slices of the tables and
  reshaped biases) and the features as one row per example; the first region, one point over whole arrays, leaves the
  table of logits and the weights of the feature bits (`entry_table`, `entry_weights`); the second region has four
  points of 4096 rows each, disjoint, so row `4096 t + n` of the result is row `n` of what point `t` computed from its
  blocks of the ids and of the features (`final_apply`).
-/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## The run -/

set_option backward.isDefEq.respectTransparency.types false in
/-- From any launch the program terminates without fault, its result array as the second region leaves it, its
    arguments unchanged and every counter at zero. -/
theorem run : θ_run defs (onTc (τ := τ) (main (F := F))) ⟨m, fun _ => 0, ρ⟩ (fun r => (∀ c : Dev nD,
      r.2.mem ((c.tc : Thread nD τ).loc main_v8) = (dat1 (V3 m ρ) c).arrAt 4 cfg1.N ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v8 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩), funext fun g => hz g (.inr (no_unscoped g.2))⟩)

/-! ## Blocks of the arrays -/

/-- The four points of the second region, each a block of rows: where a row of a block lies in its array. -/
abbrev rowAt (t : Fin cfg1.N) (n : Fin 4096) : Fin 16384 :=
  ⟨t.val * 4096 + n.val, by have : t.val < 4 := lt_of_lt_of_eq t.isLt N_1; omega⟩

/-- Row `n` of point `t`'s block of the ids is row `4096 t + n` of the ids. -/
theorem read_ids (X : S16384x200.Idx → Elt F .i32) (t : Fin cfg1.N) (n : Fin 4096) (l : Fin 200) :
    (win1_0.blk t).view.read (Elt F) X (ix2 n l) = X (ix2 (rowAt t n) l) := by
  have e : win1_0.index t 0 = t.val ∧ win1_0.index t 1 = 0 := by
    rcases fin_N1 t with rfl | rfl | rfl | rfl <;> decide +kernel
  have key : ∀ a : Fin 2, ((win1_0.blk t).view.emb (ix2 n l) a : Nat) = (ix2 (rowAt t n) l a : Nat) := fun a => by
    rcases (show a = 0 ∨ a = 1 by omega) with rfl | rfl
    · show win1_0.index t 0 * 4096 + 1 * n.val = t.val * 4096 + n.val
      rw [e.1]; omega
    · show win1_0.index t 1 * 200 + 1 * l.val = l.val
      rw [e.2]; omega
  exact congrArg X (funext fun a => Fin.ext (key a))

/-- Row `n` of point `t`'s block of the features is row `4096 t + n` of the features. -/
theorem read_feats (X : S16384x200.Idx → Elt F .i32) (t : Fin cfg1.N) (n : Fin 4096) (l : Fin 200) :
    (win1_1.blk t).view.read (Elt F) X (ix2 n l) = X (ix2 (rowAt t n) l) :=
  read_ids X t n l

/-- Row `n` of point `t`'s block of the result is row `4096 t + n` of the result. -/
theorem emb_result (t : Fin cfg1.N) (n : Fin 4096) (i : Fin 50) :
    (win1_4.blk t).view.emb (ix2 n i) = (ix2 (rowAt t n) i : S16384x50.Idx) := by
  have e : win1_4.index t 0 = t.val ∧ win1_4.index t 1 = 0 := by
    rcases fin_N1 t with rfl | rfl | rfl | rfl <;> decide +kernel
  have key : ∀ a : Fin 2, ((win1_4.blk t).view.emb (ix2 n i) a : Nat) = (ix2 (rowAt t n) i a : Nat) := fun a => by
    rcases (show a = 0 ∨ a = 1 by omega) with rfl | rfl
    · show win1_4.index t 0 * 4096 + 1 * n.val = t.val * 4096 + n.val
      rw [e.1]; omega
    · show win1_4.index t 1 * 50 + 1 * i.val = i.val
      rw [e.2]; omega
  exact funext fun a => Fin.ext (key a)

/-- An index of point `t`'s block of the result has a row from `4096 t` on, below `4096 (t + 1)`. -/
theorem row_of_mem (t : Fin cfg1.N) (x : S16384x50.Idx) (h : x ∈ ((cfg1.win 4).blk t).view.set) :
    t.val * 4096 ≤ (x 0 : ℕ) ∧ (x 0 : ℕ) < t.val * 4096 + 4096 := by
  have h' : x ∈ ((View.whole main_v8).slice (win1_4.rect t)).set := h
  rw [View.set_slice_whole, Rect.mem_set_unit] at h'
  have e : win1_4.index t 0 * win1_4.size 0 = t.val * 4096 ∧ win1_4.xsize (grid1.coords t) 0 = 4096 := by
    rcases fin_N1 t with rfl | rfl | rfl | rfl <;> decide +kernel
  have := h' 0
  change win1_4.index t 0 * win1_4.size 0 ≤ (x 0 : Nat)
    ∧ (x 0 : Nat) < win1_4.index t 0 * win1_4.size 0 + win1_4.xsize (grid1.coords t) 0 at this
  rwa [e.1, e.2] at this

/-- Two points' blocks of the result have no index in common. -/
theorem disjoint_blocks (t t' : Fin cfg1.N) (hne : t ≠ t') :
    Disjoint ((cfg1.win 4).blk t).view.set ((cfg1.win 4).blk t').view.set := by
  refine Finset.disjoint_left.mpr fun x hx hx' => hne (Fin.ext ?_)
  have a := row_of_mem t x hx
  have b := row_of_mem t' x hx'
  omega

/-- An array that is one block, at block index zero, is read whole. -/
theorem read_once (b : Ref sig .tc) {ix : Fin b.ty.shape.rank → ℕ} (hz : ∀ a, ix a = 0) (X : b.ty.Contents (Elt F)) :
    ((Memref.whole b).access (Rect.unit (fun a => ix a * b.ty.shape.size a) b.ty.shape.size
      (fun a => by rw [hz a, Nat.zero_mul, Nat.zero_add])) : View sig .tc _ _ _).read (Elt F) X = X :=
  Memref.read_access_unit_zero (Elt F) b (funext fun a => by rw [hz a, Nat.zero_mul]) _ X

/-- The second region's windows of the table and of the weights stay at their one block. -/
theorem still : ∀ t : Fin grid1.N, (∀ a, win1_2.index t a = 0) ∧ ∀ a, win1_3.index t a = 0 := by decide +kernel

theorem iblk_table (V : (c : Dev nD) → (b : Ref sig .tc) → Buf (Elt F) ((c : Thread nD τ).loc b)) (c : Dev nD) (t : Fin cfg1.N) :
    iblk1 V c 2 t = V c main_v6_0 := read_once main_v6_0 (still t).1 _

theorem iblk_weights (V : (c : Dev nD) → (b : Ref sig .tc) → Buf (Elt F) ((c : Thread nD τ).loc b)) (c : Dev nD) (t : Fin cfg1.N) :
    iblk1 V c 3 t = V c main_v6_1 := read_once main_v6_1 (still t).2 _

/-- The first region has one point, and there every window is at block index zero. -/
theorem once : ∀ (t : Fin grid0.N) (w : Fin 11) (a), (win0 w).index t a = 0 := by decide +kernel

/-- So what its body reads is the arrays themselves. -/
theorem iblk_once (V : (c : Dev nD) → (b : Ref sig .tc) → Buf (Elt F) ((c : Thread nD τ).loc b)) (c : Dev nD) (t : Fin cfg0.N) :
    iblk0 V c 0 t = V c main_v0 ∧ iblk0 V c 1 t = V c main_v1 ∧ iblk0 V c 2 t = V c main_v2 ∧ iblk0 V c 3 t = V c main_arg6
      ∧ iblk0 V c 4 t = V c main_v3 ∧ iblk0 V c 5 t = V c main_arg8 ∧ iblk0 V c 6 t = V c main_v4
      ∧ iblk0 V c 7 t = V c main_arg10 ∧ iblk0 V c 8 t = V c main_v5 :=
  ⟨read_once main_v0 (once t 0) _, read_once main_v1 (once t 1) _, read_once main_v2 (once t 2) _,
    read_once main_arg6 (once t 3) _, read_once main_v3 (once t 4) _, read_once main_arg8 (once t 5) _,
    read_once main_v4 (once t 6) _, read_once main_arg10 (once t 7) _, read_once main_v5 (once t 8) _⟩

/-! ## What the second region enters with -/

/-- What the host prepares for the first region, from the arguments. -/
abbrev posTab (c : Dev nD) : S2x32.Idx → Elt F .f32 :=
  extractStridedSlice S2x32 ![0, 0] (m ((c : Thread nD τ).loc main_arg3)) slices_S8192x32_S2x32_0_0
abbrev fromTab (c : Dev nD) : S2x32.Idx → Elt F .f32 :=
  extractStridedSlice S2x32 ![0, 0] (m ((c : Thread nD τ).loc main_arg4)) slices_S82x32_S2x32_0_0
abbrev toTab (c : Dev nD) : S2x32.Idx → Elt F .f32 :=
  extractStridedSlice S2x32 ![0, 0] (m ((c : Thread nD τ).loc main_arg5)) slices_S81x32_S2x32_0_0
abbrev dropTab (c : Dev nD) : S2x32.Idx → Elt F .f32 :=
  extractStridedSlice S2x32 ![0, 0] (m ((c : Thread nD τ).loc main_arg7)) slices_S8x32_S2x32_0_0
abbrev bias1 (c : Dev nD) : S1x64.Idx → Elt F .f32 := shapeCast S1x64 (m ((c : Thread nD τ).loc main_arg9)) shapeCasts_S64_S1x64
abbrev bias2 (c : Dev nD) : S1x1.Idx → Elt F .f32 := shapeCast S1x1 (m ((c : Thread nD τ).loc main_arg11)) shapeCasts_S1_S1x1
abbrev flatFeats (c : Dev nD) : S16384x200.Idx → Elt F .i32 :=
  shapeCast S16384x200 (m ((c : Thread nD τ).loc main_arg1)) shapeCasts_S16384x50x4_S16384x200

theorem entry_ids (c : Dev nD) : V3 m ρ c main_arg0 = m ((c : Thread nD τ).loc main_arg0) := W3_args m ρ c main_arg0 (by decide)

theorem entry_feats (c : Dev nD) : V3 m ρ c main_v7 = flatFeats m c := by
  show shapeCast S16384x200 (W2 m ρ c (Proc.devRef .tc main_arg1)) shapeCasts_S16384x50x4_S16384x200 = _
  rw [W2_args m ρ c main_arg1 (by decide)]

/-- The one write-back of the first region's table. -/
theorem entry_table (c : Dev nD) : V3 m ρ c main_v6_0
    = out0_9 (posTab m c) (fromTab m c) (toTab m c) (m ((c : Thread nD τ).loc main_arg6)) (dropTab m c)
        (m ((c : Thread nD τ).loc main_arg8)) (bias1 m c) (m ((c : Thread nD τ).loc main_arg10)) (bias2 m c) := by
  refine (W3_of m ρ c main_v6_0 (by decide)).trans ((W2_arr m ρ c 9).trans ?_)
  have h := (dat0 (V1 m ρ) c).read_blk_arrAt_eq_flushed 9
    (fun t t' _ _ hne => absurd ((fin_N0 t).trans (fin_N0 t').symm) hne) cfg0.N t0_0 t0_0.isLt (flush0_9 t0_0)
  refine (read_once main_v6_0 (once t0_0 9) _).symm.trans (h.trans ?_)
  show (cfg0.win 9).cut (grid0.coords t0_0) ((dat0 (V1 m ρ) c).after 9 t0_0) = _
  obtain ⟨e0, e1, e2, e3, e4, e5, e6, e7, e8⟩ := iblk_once (V1 m ρ) c t0_0
  rw [after0_9, e0, e1, e2, e3, e4, e5, e6, e7, e8]
  rfl

/-- The one write-back of the first region's weights. -/
theorem entry_weights (c : Dev nD) : V3 m ρ c main_v6_1
    = out0_10 (posTab m c) (fromTab m c) (toTab m c) (m ((c : Thread nD τ).loc main_arg6)) (dropTab m c)
        (m ((c : Thread nD τ).loc main_arg8)) (bias1 m c) (m ((c : Thread nD τ).loc main_arg10)) (bias2 m c) := by
  refine (W3_of m ρ c main_v6_1 (by decide)).trans ((W2_arr m ρ c 10).trans ?_)
  have h := (dat0 (V1 m ρ) c).read_blk_arrAt_eq_flushed 10
    (fun t t' _ _ hne => absurd ((fin_N0 t).trans (fin_N0 t').symm) hne) cfg0.N t0_0 t0_0.isLt (flush0_10 t0_0)
  refine (read_once main_v6_1 (once t0_0 10) _).symm.trans (h.trans ?_)
  show (cfg0.win 10).cut (grid0.coords t0_0) ((dat0 (V1 m ρ) c).after 10 t0_0) = _
  obtain ⟨e0, e1, e2, e3, e4, e5, e6, e7, e8⟩ := iblk_once (V1 m ρ) c t0_0
  rw [after0_10, e0, e1, e2, e3, e4, e5, e6, e7, e8]
  rfl

/-! ## What the result array ends with -/

theorem hz : (![0, 0] : Fin 2 → ℕ) = fun _ => 0 := by decide

/-- Row `4096 t + n` of the result is row `n` of point `t`'s block: its blocks of ids and features, the whole table, the
    whole weights. -/
theorem final_apply (c : Dev nD) (t : Fin cfg1.N) (n : Fin 4096) (i : Fin 50) :
    ((dat1 (V3 m ρ) c).arrAt 4 cfg1.N : S16384x50.Idx → Elt F .f32) (ix2 (rowAt t n) i)
      = k1_pay1 (iblk1 (V3 m ρ) c 0 t) (iblk1 (V3 m ρ) c 1 t) (V3 m ρ c main_v6_0) (V3 m ρ c main_v6_1) (ix2 n i) := by
  have h := (dat1 (V3 m ρ) c).read_blk_arrAt_eq_flushed 4 (fun t t' _ _ hne => disjoint_blocks t t' hne) cfg1.N t t.isLt (flush1_4 t)
  rw [← emb_result t n i]
  refine (congrFun h (ix2 n i)).trans ?_
  show (cfg1.win 4).cut (grid1.coords t) ((dat1 (V3 m ρ) c).after 4 t) (ix2 n i) = _
  rw [after1_4, iblk_table, iblk_weights]
  unfold out1_4
  rw [View.canon_unit_zero hz, View.ld_unit_zero hz, View.ld_unit_zero hz, View.ld_unit_zero hz, View.ld_unit_zero hz]
  rfl

/-- The blocks of ids and features, read at a row. -/
theorem block_ids (c : Dev nD) (t : Fin cfg1.N) (n : Fin 4096) (l : Fin 200) :
    (iblk1 (V3 m ρ) c 0 t : S4096x200.Idx → Elt F .i32) (ix2 n l) = (m ((c : Thread nD τ).loc main_arg0)) (ix2 (rowAt t n) l) :=
  (read_ids _ t n l).trans (congrFun (entry_ids m ρ c) _)

theorem block_feats (c : Dev nD) (t : Fin cfg1.N) (n : Fin 4096) (l : Fin 200) :
    (iblk1 (V3 m ρ) c 1 t : S4096x200.Idx → Elt F .i32) (ix2 n l) = flatFeats m c (ix2 (rowAt t n) l) :=
  (read_feats _ t n l).trans (congrFun (entry_feats m ρ c) _)

end Cert.KernelIdeal.Launch

end
-- ==== Proof.FinalRational.lean ====
/-
  What `KernelIdeal`'s run leaves in its result array: the logits, the activation over the kernel's own rational approximation of erf.
-/
module

public import proofs.«01_k».proof.Proof.KernelAt
public import proofs.«01_k».proof.Proof.LaunchRational

@[expose] public section

set_option maxRecDepth 16384

noncomputable section

namespace Cert.KernelIdeal.Final

open Idealize.ShloMosaic Idealize.ShloMosaic.TcCoe Cert.Inputs
open Cert.KernelIdeal Cert.KernelIdeal.Gen

variable (m : (ℓ : Loc nD τ sig) → Buf (Elt Ideal) ℓ) (ρ : Dev nD → PrngReg)

/-- Device `c`'s twelve arguments. -/
def args (c : Dev nD) : Args where
  ids := m ((c : Thread nD τ).loc main_arg0)
  feats := m ((c : Thread nD τ).loc main_arg1)
  mask := m ((c : Thread nD τ).loc main_arg2)
  pos := m ((c : Thread nD τ).loc main_arg3)
  start := m ((c : Thread nD τ).loc main_arg4)
  stop := m ((c : Thread nD τ).loc main_arg5)
  promo := m ((c : Thread nD τ).loc main_arg6)
  drop := m ((c : Thread nD τ).loc main_arg7)
  w1 := m ((c : Thread nD τ).loc main_arg8)
  b1 := m ((c : Thread nD τ).loc main_arg9)
  w2 := m ((c : Thread nD τ).loc main_arg10)
  b2 := m ((c : Thread nD τ).loc main_arg11)

/-- The logits, as what device `c`'s result array holds. -/
def value (c : Dev nD) : Buf (Elt Ideal) ((c : Thread nD τ).loc main_v8) := result Rational.kernel (args m c)

/-- Each row of the result is a row of one point's block, whose logits are the table's entries. -/
theorem final_eq (c : Dev nD) (h : (args m c).Drawn) :
    (dat1 (V3 m ρ) c).arrAt 4 cfg1.N = value m c := by
  refine eq_result fun p i => ?_
  have ht : (p : ℕ) / 4096 < cfg1.N := by rw [show cfg1.N = 4 from N_1]; omega
  have hp : p = Launch.rowAt ⟨(p : ℕ) / 4096, ht⟩ ⟨(p : ℕ) % 4096, by omega⟩ :=
    Fin.ext (by show (p : ℕ) = (p : ℕ) / 4096 * 4096 + (p : ℕ) % 4096; omega)
  rw [hp, Launch.final_apply, Launch.entry_table, Launch.entry_weights, table_eq]
  exact KernelAt.lookup_apply Rational.kernel_isReal Table.gelu_rat h _ i _ (Launch.block_ids m ρ c _ _) (Launch.block_feats m ρ c _ _)

end Cert.KernelIdeal.Final

end
-- ==== Proof.LaunchErf.lean ====
/-
  The launch of `KernelErfIdeal`: what the program's run leaves in its result array, as an equation about one block.

  `run` is the program's frame with one conjunct more: the result array ends as the second region's output window
  leaves it. The rest of the module opens that array. The host prepares nine small arrays (slices of the tables and
  reshaped biases) and the features as one row per example; the first region, one point over whole arrays, leaves the
  table of logits and the weights of the feature bits (`entry_table`, `entry_weights`); the second region has four
  points of 4096 rows each, disjoint, so row `4096 t + n` of the result is row `n` of what point `t` computed from its
  blocks of the ids and of the features (`final_apply`).
-/
module

public import proofs.«01_k».proof.Proof.Gen.KernelErfIdeal.Frame
public import Idealize.ShloMosaic.Lib.Pipeline.Value
public import Idealize.ShloMosaic.Lib.Pointwise

@[expose] public section

set_option maxRecDepth 16384

noncomputable section

namespace Cert.KernelErfIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelErfIdeal Cert.KernelErfIdeal.Gen

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## The run -/

set_option backward.isDefEq.respectTransparency.types false in
/-- From any launch the program terminates without fault, its result array as the second region leaves it, its
    arguments unchanged and every counter at zero. -/
theorem run : θ_run defs (onTc (τ := τ) (main (F := F))) ⟨m, fun _ => 0, ρ⟩ (fun r => (∀ c : Dev nD,
      r.2.mem ((c.tc : Thread nD τ).loc main_v8) = (dat1 (V3 m ρ) c).arrAt 4 cfg1.N ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v8 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩), funext fun g => hz g (.inr (no_unscoped g.2))⟩)

/-! ## Blocks of the arrays -/

/-- The four points of the second region, each a block of rows: where a row of a block lies in its array. -/
abbrev rowAt (t : Fin cfg1.N) (n : Fin 4096) : Fin 16384 :=
  ⟨t.val * 4096 + n.val, by have : t.val < 4 := lt_of_lt_of_eq t.isLt N_1; omega⟩

/-- Row `n` of point `t`'s block of the ids is row `4096 t + n` of the ids. -/
theorem read_ids (X : S16384x200.Idx → Elt F .i32) (t : Fin cfg1.N) (n : Fin 4096) (l : Fin 200) :
    (win1_0.blk t).view.read (Elt F) X (ix2 n l) = X (ix2 (rowAt t n) l) := by
  have e : win1_0.index t 0 = t.val ∧ win1_0.index t 1 = 0 := by
    rcases fin_N1 t with rfl | rfl | rfl | rfl <;> decide +kernel
  have key : ∀ a : Fin 2, ((win1_0.blk t).view.emb (ix2 n l) a : Nat) = (ix2 (rowAt t n) l a : Nat) := fun a => by
    rcases (show a = 0 ∨ a = 1 by omega) with rfl | rfl
    · show win1_0.index t 0 * 4096 + 1 * n.val = t.val * 4096 + n.val
      rw [e.1]; omega
    · show win1_0.index t 1 * 200 + 1 * l.val = l.val
      rw [e.2]; omega
  exact congrArg X (funext fun a => Fin.ext (key a))

/-- Row `n` of point `t`'s block of the features is row `4096 t + n` of the features. -/
theorem read_feats (X : S16384x200.Idx → Elt F .i32) (t : Fin cfg1.N) (n : Fin 4096) (l : Fin 200) :
    (win1_1.blk t).view.read (Elt F) X (ix2 n l) = X (ix2 (rowAt t n) l) :=
  read_ids X t n l

/-- Row `n` of point `t`'s block of the result is row `4096 t + n` of the result. -/
theorem emb_result (t : Fin cfg1.N) (n : Fin 4096) (i : Fin 50) :
    (win1_4.blk t).view.emb (ix2 n i) = (ix2 (rowAt t n) i : S16384x50.Idx) := by
  have e : win1_4.index t 0 = t.val ∧ win1_4.index t 1 = 0 := by
    rcases fin_N1 t with rfl | rfl | rfl | rfl <;> decide +kernel
  have key : ∀ a : Fin 2, ((win1_4.blk t).view.emb (ix2 n i) a : Nat) = (ix2 (rowAt t n) i a : Nat) := fun a => by
    rcases (show a = 0 ∨ a = 1 by omega) with rfl | rfl
    · show win1_4.index t 0 * 4096 + 1 * n.val = t.val * 4096 + n.val
      rw [e.1]; omega
    · show win1_4.index t 1 * 50 + 1 * i.val = i.val
      rw [e.2]; omega
  exact funext fun a => Fin.ext (key a)

/-- An index of point `t`'s block of the result has a row from `4096 t` on, below `4096 (t + 1)`. -/
theorem row_of_mem (t : Fin cfg1.N) (x : S16384x50.Idx) (h : x ∈ ((cfg1.win 4).blk t).view.set) :
    t.val * 4096 ≤ (x 0 : ℕ) ∧ (x 0 : ℕ) < t.val * 4096 + 4096 := by
  have h' : x ∈ ((View.whole main_v8).slice (win1_4.rect t)).set := h
  rw [View.set_slice_whole, Rect.mem_set_unit] at h'
  have e : win1_4.index t 0 * win1_4.size 0 = t.val * 4096 ∧ win1_4.xsize (grid1.coords t) 0 = 4096 := by
    rcases fin_N1 t with rfl | rfl | rfl | rfl <;> decide +kernel
  have := h' 0
  change win1_4.index t 0 * win1_4.size 0 ≤ (x 0 : Nat)
    ∧ (x 0 : Nat) < win1_4.index t 0 * win1_4.size 0 + win1_4.xsize (grid1.coords t) 0 at this
  rwa [e.1, e.2] at this

/-- Two points' blocks of the result have no index in common. -/
theorem disjoint_blocks (t t' : Fin cfg1.N) (hne : t ≠ t') :
    Disjoint ((cfg1.win 4).blk t).view.set ((cfg1.win 4).blk t').view.set := by
  refine Finset.disjoint_left.mpr fun x hx hx' => hne (Fin.ext ?_)
  have a := row_of_mem t x hx
  have b := row_of_mem t' x hx'
  omega

/-- An array that is one block, at block index zero, is read whole. -/
theorem read_once (b : Ref sig .tc) {ix : Fin b.ty.shape.rank → ℕ} (hz : ∀ a, ix a = 0) (X : b.ty.Contents (Elt F)) :
    ((Memref.whole b).access (Rect.unit (fun a => ix a * b.ty.shape.size a) b.ty.shape.size
      (fun a => by rw [hz a, Nat.zero_mul, Nat.zero_add])) : View sig .tc _ _ _).read (Elt F) X = X :=
  Memref.read_access_unit_zero (Elt F) b (funext fun a => by rw [hz a, Nat.zero_mul]) _ X

/-- The second region's windows of the table and of the weights stay at their one block. -/
theorem still : ∀ t : Fin grid1.N, (∀ a, win1_2.index t a = 0) ∧ ∀ a, win1_3.index t a = 0 := by decide +kernel

theorem iblk_table (V : (c : Dev nD) → (b : Ref sig .tc) → Buf (Elt F) ((c : Thread nD τ).loc b)) (c : Dev nD) (t : Fin cfg1.N) :
    iblk1 V c 2 t = V c main_v6_0 := read_once main_v6_0 (still t).1 _

theorem iblk_weights (V : (c : Dev nD) → (b : Ref sig .tc) → Buf (Elt F) ((c : Thread nD τ).loc b)) (c : Dev nD) (t : Fin cfg1.N) :
    iblk1 V c 3 t = V c main_v6_1 := read_once main_v6_1 (still t).2 _

/-- The first region has one point, and there every window is at block index zero. -/
theorem once : ∀ (t : Fin grid0.N) (w : Fin 11) (a), (win0 w).index t a = 0 := by decide +kernel

/-- So what its body reads is the arrays themselves. -/
theorem iblk_once (V : (c : Dev nD) → (b : Ref sig .tc) → Buf (Elt F) ((c : Thread nD τ).loc b)) (c : Dev nD) (t : Fin cfg0.N) :
    iblk0 V c 0 t = V c main_v0 ∧ iblk0 V c 1 t = V c main_v1 ∧ iblk0 V c 2 t = V c main_v2 ∧ iblk0 V c 3 t = V c main_arg6
      ∧ iblk0 V c 4 t = V c main_v3 ∧ iblk0 V c 5 t = V c main_arg8 ∧ iblk0 V c 6 t = V c main_v4
      ∧ iblk0 V c 7 t = V c main_arg10 ∧ iblk0 V c 8 t = V c main_v5 :=
  ⟨read_once main_v0 (once t 0) _, read_once main_v1 (once t 1) _, read_once main_v2 (once t 2) _,
    read_once main_arg6 (once t 3) _, read_once main_v3 (once t 4) _, read_once main_arg8 (once t 5) _,
    read_once main_v4 (once t 6) _, read_once main_arg10 (once t 7) _, read_once main_v5 (once t 8) _⟩

/-! ## What the second region enters with -/

/-- What the host prepares for the first region, from the arguments. -/
abbrev posTab (c : Dev nD) : S2x32.Idx → Elt F .f32 :=
  extractStridedSlice S2x32 ![0, 0] (m ((c : Thread nD τ).loc main_arg3)) slices_S8192x32_S2x32_0_0
abbrev fromTab (c : Dev nD) : S2x32.Idx → Elt F .f32 :=
  extractStridedSlice S2x32 ![0, 0] (m ((c : Thread nD τ).loc main_arg4)) slices_S82x32_S2x32_0_0
abbrev toTab (c : Dev nD) : S2x32.Idx → Elt F .f32 :=
  extractStridedSlice S2x32 ![0, 0] (m ((c : Thread nD τ).loc main_arg5)) slices_S81x32_S2x32_0_0
abbrev dropTab (c : Dev nD) : S2x32.Idx → Elt F .f32 :=
  extractStridedSlice S2x32 ![0, 0] (m ((c : Thread nD τ).loc main_arg7)) slices_S8x32_S2x32_0_0
abbrev bias1 (c : Dev nD) : S1x64.Idx → Elt F .f32 := shapeCast S1x64 (m ((c : Thread nD τ).loc main_arg9)) shapeCasts_S64_S1x64
abbrev bias2 (c : Dev nD) : S1x1.Idx → Elt F .f32 := shapeCast S1x1 (m ((c : Thread nD τ).loc main_arg11)) shapeCasts_S1_S1x1
abbrev flatFeats (c : Dev nD) : S16384x200.Idx → Elt F .i32 :=
  shapeCast S16384x200 (m ((c : Thread nD τ).loc main_arg1)) shapeCasts_S16384x50x4_S16384x200

theorem entry_ids (c : Dev nD) : V3 m ρ c main_arg0 = m ((c : Thread nD τ).loc main_arg0) := W3_args m ρ c main_arg0 (by decide)

theorem entry_feats (c : Dev nD) : V3 m ρ c main_v7 = flatFeats m c := by
  show shapeCast S16384x200 (W2 m ρ c (Proc.devRef .tc main_arg1)) shapeCasts_S16384x50x4_S16384x200 = _
  rw [W2_args m ρ c main_arg1 (by decide)]

/-- The one write-back of the first region's table. -/
theorem entry_table (c : Dev nD) : V3 m ρ c main_v6_0
    = out0_9 (posTab m c) (fromTab m c) (toTab m c) (m ((c : Thread nD τ).loc main_arg6)) (dropTab m c)
        (m ((c : Thread nD τ).loc main_arg8)) (bias1 m c) (m ((c : Thread nD τ).loc main_arg10)) (bias2 m c) := by
  refine (W3_of m ρ c main_v6_0 (by decide)).trans ((W2_arr m ρ c 9).trans ?_)
  have h := (dat0 (V1 m ρ) c).read_blk_arrAt_eq_flushed 9
    (fun t t' _ _ hne => absurd ((fin_N0 t).trans (fin_N0 t').symm) hne) cfg0.N t0_0 t0_0.isLt (flush0_9 t0_0)
  refine (read_once main_v6_0 (once t0_0 9) _).symm.trans (h.trans ?_)
  show (cfg0.win 9).cut (grid0.coords t0_0) ((dat0 (V1 m ρ) c).after 9 t0_0) = _
  obtain ⟨e0, e1, e2, e3, e4, e5, e6, e7, e8⟩ := iblk_once (V1 m ρ) c t0_0
  rw [after0_9, e0, e1, e2, e3, e4, e5, e6, e7, e8]
  rfl

/-- The one write-back of the first region's weights. -/
theorem entry_weights (c : Dev nD) : V3 m ρ c main_v6_1
    = out0_10 (posTab m c) (fromTab m c) (toTab m c) (m ((c : Thread nD τ).loc main_arg6)) (dropTab m c)
        (m ((c : Thread nD τ).loc main_arg8)) (bias1 m c) (m ((c : Thread nD τ).loc main_arg10)) (bias2 m c) := by
  refine (W3_of m ρ c main_v6_1 (by decide)).trans ((W2_arr m ρ c 10).trans ?_)
  have h := (dat0 (V1 m ρ) c).read_blk_arrAt_eq_flushed 10
    (fun t t' _ _ hne => absurd ((fin_N0 t).trans (fin_N0 t').symm) hne) cfg0.N t0_0 t0_0.isLt (flush0_10 t0_0)
  refine (read_once main_v6_1 (once t0_0 10) _).symm.trans (h.trans ?_)
  show (cfg0.win 10).cut (grid0.coords t0_0) ((dat0 (V1 m ρ) c).after 10 t0_0) = _
  obtain ⟨e0, e1, e2, e3, e4, e5, e6, e7, e8⟩ := iblk_once (V1 m ρ) c t0_0
  rw [after0_10, e0, e1, e2, e3, e4, e5, e6, e7, e8]
  rfl

/-! ## What the result array ends with -/

theorem hz : (![0, 0] : Fin 2 → ℕ) = fun _ => 0 := by decide

/-- Row `4096 t + n` of the result is row `n` of point `t`'s block: its blocks of ids and features, the whole table, the
    whole weights. -/
theorem final_apply (c : Dev nD) (t : Fin cfg1.N) (n : Fin 4096) (i : Fin 50) :
    ((dat1 (V3 m ρ) c).arrAt 4 cfg1.N : S16384x50.Idx → Elt F .f32) (ix2 (rowAt t n) i)
      = k1_pay1 (iblk1 (V3 m ρ) c 0 t) (iblk1 (V3 m ρ) c 1 t) (V3 m ρ c main_v6_0) (V3 m ρ c main_v6_1) (ix2 n i) := by
  have h := (dat1 (V3 m ρ) c).read_blk_arrAt_eq_flushed 4 (fun t t' _ _ hne => disjoint_blocks t t' hne) cfg1.N t t.isLt (flush1_4 t)
  rw [← emb_result t n i]
  refine (congrFun h (ix2 n i)).trans ?_
  show (cfg1.win 4).cut (grid1.coords t) ((dat1 (V3 m ρ) c).after 4 t) (ix2 n i) = _
  rw [after1_4, iblk_table, iblk_weights]
  unfold out1_4
  rw [View.canon_unit_zero hz, View.ld_unit_zero hz, View.ld_unit_zero hz, View.ld_unit_zero hz, View.ld_unit_zero hz]
  rfl

/-- The blocks of ids and features, read at a row. -/
theorem block_ids (c : Dev nD) (t : Fin cfg1.N) (n : Fin 4096) (l : Fin 200) :
    (iblk1 (V3 m ρ) c 0 t : S4096x200.Idx → Elt F .i32) (ix2 n l) = (m ((c : Thread nD τ).loc main_arg0)) (ix2 (rowAt t n) l) :=
  (read_ids _ t n l).trans (congrFun (entry_ids m ρ c) _)

theorem block_feats (c : Dev nD) (t : Fin cfg1.N) (n : Fin 4096) (l : Fin 200) :
    (iblk1 (V3 m ρ) c 1 t : S4096x200.Idx → Elt F .i32) (ix2 n l) = flatFeats m c (ix2 (rowAt t n) l) :=
  (read_feats _ t n l).trans (congrFun (entry_feats m ρ c) _)

end Cert.KernelErfIdeal.Launch

end
-- ==== Proof.FinalErf.lean ====
/-
  What `KernelErfIdeal`'s run leaves in its result array: the logits, the activation over erf.
-/
module

public import proofs.«01_k».proof.Proof.KernelAt
public import proofs.«01_k».proof.Proof.LaunchErf

@[expose] public section

set_option maxRecDepth 16384

noncomputable section

namespace Cert.KernelErfIdeal.Final

open Idealize.ShloMosaic Idealize.ShloMosaic.TcCoe Cert.Inputs
open Cert.KernelErfIdeal Cert.KernelErfIdeal.Gen

variable (m : (ℓ : Loc nD τ sig) → Buf (Elt Ideal) ℓ) (ρ : Dev nD → PrngReg)

/-- Device `c`'s twelve arguments. -/
def args (c : Dev nD) : Args where
  ids := m ((c : Thread nD τ).loc main_arg0)
  feats := m ((c : Thread nD τ).loc main_arg1)
  mask := m ((c : Thread nD τ).loc main_arg2)
  pos := m ((c : Thread nD τ).loc main_arg3)
  start := m ((c : Thread nD τ).loc main_arg4)
  stop := m ((c : Thread nD τ).loc main_arg5)
  promo := m ((c : Thread nD τ).loc main_arg6)
  drop := m ((c : Thread nD τ).loc main_arg7)
  w1 := m ((c : Thread nD τ).loc main_arg8)
  b1 := m ((c : Thread nD τ).loc main_arg9)
  w2 := m ((c : Thread nD τ).loc main_arg10)
  b2 := m ((c : Thread nD τ).loc main_arg11)

/-- The logits, as what device `c`'s result array holds. -/
def value (c : Dev nD) : Buf (Elt Ideal) ((c : Thread nD τ).loc main_v8) := result Ideal.erf (args m c)

/-- Each row of the result is a row of one point's block, whose logits are the table's entries. -/
theorem final_eq (c : Dev nD) (h : (args m c).Drawn) :
    (dat1 (V3 m ρ) c).arrAt 4 cfg1.N = value m c := by
  refine eq_result fun p i => ?_
  have ht : (p : ℕ) / 4096 < cfg1.N := by rw [show cfg1.N = 4 from N_1]; omega
  have hp : p = Launch.rowAt ⟨(p : ℕ) / 4096, ht⟩ ⟨(p : ℕ) % 4096, by omega⟩ :=
    Fin.ext (by show (p : ℕ) = (p : ℕ) / 4096 * 4096 + (p : ℕ) % 4096; omega)
  rw [hp, Launch.final_apply, Launch.entry_table, Launch.entry_weights, table_eq]
  exact KernelAt.lookup_apply Spec.erf_isReal Table.gelu_erf h _ i _ (Launch.block_ids m ρ c _ _) (Launch.block_feats m ρ c _ _)

end Cert.KernelErfIdeal.Final

end
-- ==== Proof.Take.lean ====
/- A table read at rows named by a rectangle of words, as the reference's program writes it out (a negative word gets the
   table's length added, the row is gathered at the word clamped into the table, and a word outside the table gives the fill
   value), and what it is when every word names a row: that row. -/
module

public import Idealize.ShloMosaic.Lib.Pointwise
public import Idealize.ShloMosaic.Lib.ValueIdx
public import Idealize.ShloMosaic.Lib.StableHlo.Predicate

@[expose] public section

set_option maxRecDepth 16384

noncomputable section

namespace Cert.Take

open Idealize.ShloMosaic Idealize.ShloMosaic.StableHlo.Predicate

/-- The dimension numbers of the gather of whole rows of length `D` of a table of `N` rows at a `B` by `L` rectangle. -/
abbrev rowDims (N D B L : ℕ)
    (wf : GatherDims.WF ⟨2, ![N, D]⟩ ⟨3, ![B, L, 1]⟩ ⟨3, ![B, L, D]⟩ [2] [0] [] [0] [] 2 ![1, D]) :
    GatherDims ⟨2, ![N, D]⟩ ⟨3, ![B, L, 1]⟩ ⟨3, ![B, L, D]⟩ where
  offsetDims := [2]
  collapsedSliceDims := [0]
  operandBatchingDims := []
  startIndicesBatchingDims := []
  startIndexMap := [0]
  indexVectorDim := 2
  sliceSizes := ![1, D]
  wf := wf

/-- Such a gather at an index: the row the word names, read signed and clamped into the table. -/
theorem gather_rows {α : Type} {N D B L w : ℕ} (hN : 0 < N)
    (wf : GatherDims.WF ⟨2, ![N, D]⟩ ⟨3, ![B, L, 1]⟩ ⟨3, ![B, L, D]⟩ [2] [0] [] [0] [] 2 ![1, D])
    (x : (⟨2, ![N, D]⟩ : Shape).Idx → α) (i : IVec ⟨3, ![B, L, 1]⟩ w) (b : Fin B) (l : Fin L) (k : Fin D) :
    Host.gather (rowDims N D B L wf) x i (ix3 b l k) = x (ix2 ⟨min (i (ix3 b l 0)).toInt.toNat (N - 1), by omega⟩ k) := by
  refine congrArg x (funext fun a => Fin.ext ?_)
  show (rowDims N D B L wf).start (ix3 b l k) i a + (rowDims N D B L wf).batchCoord (ix3 b l k) a
      + (rowDims N D B L wf).offCoord (ix3 b l k) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowDims N D B L wf).startIndexMap from List.mem_singleton.mpr rfl)]
    refine congrArg (fun z => min (i z).toInt.toNat (N - 1)) (funext fun q => Fin.ext ?_)
    match q with
    | ⟨0, _⟩ => rfl
    | ⟨1, _⟩ => rfl
    | ⟨2, _⟩ => rfl
  · unfold GatherDims.start
    rw [dif_neg (show (1 : Fin 2) ∉ (rowDims N D B L wf).startIndexMap from fun h => by simp at h), Nat.zero_add]
    unfold GatherDims.offCoord
    rw [dif_pos (show (1 : Fin 2) ∈ (rowDims N D B L wf).sKept by rw [GatherDims.mem_sKept]; simp)]
    rfl

abbrev S_ : Shape := ⟨0, ![]⟩
abbrev S1 : Shape := ⟨1, ![1]⟩
abbrev S111 : Shape := ⟨3, ![1, 1, 1]⟩

/-- The shape conditions of the operations below. -/
structure Shapes (D B L : ℕ) : Prop where
  bL : S_.BroadcastsInDim ⟨2, ![B, L]⟩ (![] : Fin 0 → Fin 2)
  toL1 : (⟨2, ![B, L]⟩ : Shape).BroadcastsInDim ⟨3, ![B, L, 1]⟩ (![0, 1] : Fin 2 → Fin 3)
  bL1 : S_.BroadcastsInDim ⟨3, ![B, L, 1]⟩ (![] : Fin 0 → Fin 3)
  to1 : S1.BroadcastsInDim S111 (![2] : Fin 1 → Fin 3)
  lastL1 : S111.BroadcastsInDim ⟨3, ![B, L, 1]⟩ (![0, 1, 2] : Fin 3 → Fin 3)
  red : (⟨3, ![B, L, 1]⟩ : Shape).ReducesTo [2] ⟨2, ![B, L]⟩
  pos : 0 < S_.numel
  toLD : (⟨2, ![B, L]⟩ : Shape).BroadcastsInDim ⟨3, ![B, L, D]⟩ (![0, 1] : Fin 2 → Fin 3)
  bLD : S_.BroadcastsInDim ⟨3, ![B, L, D]⟩ (![] : Fin 0 → Fin 3)

variable {F : FTy → Type} [FloatOps F] {N D B L : ℕ}

/-- The word, wrapped once when negative. -/
def wrapped (s : Shapes D B L) (n : BitVec 32) (i : IVec ⟨2, ![B, L]⟩ 32) : IVec ⟨3, ![B, L, 1]⟩ 32 :=
  broadcastInDim ⟨3, ![B, L, 1]⟩ ![0, 1] s.toL1
    (select (cmpi .slt i (broadcastInDim ⟨2, ![B, L]⟩ ![] s.bL (constantI S_ 32 0#32)))
      (addi i (broadcastInDim ⟨2, ![B, L]⟩ ![] s.bL (constantI S_ 32 n))) i)

/-- The rows taken. -/
def rows (s : Shapes D B L) (d : GatherDims ⟨2, ![N, D]⟩ ⟨3, ![B, L, 1]⟩ ⟨3, ![B, L, D]⟩) (n last : BitVec 32)
    (x : FVec F ⟨2, ![N, D]⟩ .f32) (i : IVec ⟨2, ![B, L]⟩ 32) : FVec F ⟨3, ![B, L, D]⟩ .f32 :=
  select (broadcastInDim ⟨3, ![B, L, D]⟩ ![0, 1] s.toLD
      (Host.reduce IntOp.andi
        (andi (cmpi .sge (wrapped s n i) (broadcastInDim ⟨3, ![B, L, 1]⟩ ![] s.bL1 (constantI S_ 32 0#32)))
          (cmpi .sle (wrapped s n i)
            (broadcastInDim ⟨3, ![B, L, 1]⟩ ![0, 1, 2] s.lastL1 (broadcastInDim S111 ![2] s.to1 (constantI S1 32 last)))))
        (constantI S_ 1 1#1) s.red s.pos))
    (Host.gather d x (wrapped s n i)) (broadcastInDim ⟨3, ![B, L, D]⟩ ![] s.bLD (constant S_ .f32 0x7FC00000#32))

/-- A rectangle repeated along a third axis, at an index. -/
theorem bcast_pair {α : Type} (h : (⟨2, ![B, L]⟩ : Shape).BroadcastsInDim ⟨3, ![B, L, D]⟩ (![0, 1] : Fin 2 → Fin 3))
    (x : (⟨2, ![B, L]⟩ : Shape).Idx → α) (b : Fin B) (l : Fin L) (k : Fin D) :
    broadcastInDim ⟨3, ![B, L, D]⟩ ![0, 1] h x (ix3 b l k) = x (ix2 b l) := by
  refine broadcastInDim_apply _ h x _ (ix2 b l) fun a => ?_
  have hb := b.isLt
  have hl := l.isLt
  match a with
  | ⟨0, _⟩ =>
    show (b : ℕ) = if B = 1 then 0 else (b : ℕ)
    split <;> omega
  | ⟨1, _⟩ =>
    show (l : ℕ) = if L = 1 then 0 else (l : ℕ)
    split <;> omega

theorem wrapped_apply (s : Shapes D B L) (n : BitVec 32) (i : IVec ⟨2, ![B, L]⟩ 32) (b : Fin B) (l : Fin L) (k : Fin 1)
    (hi : (i (ix2 b l)).toNat < 2 ^ 31) : wrapped s n i (ix3 b l k) = i (ix2 b l) := by
  unfold wrapped
  rw [bcast_pair]
  pointwise
  refine if_neg fun h => ?_
  have := (slt_iff_toNat hi (by decide)).mp h
  simp at this

theorem rows_apply (s : Shapes D B L) (wf) (n last : BitVec 32) (x : FVec F ⟨2, ![N, D]⟩ .f32) (i : IVec ⟨2, ![B, L]⟩ 32)
    (b : Fin B) (l : Fin L) (k : Fin D) (hN : last.toNat + 1 = N) (hN' : N ≤ 2 ^ 31) (hi : (i (ix2 b l)).toNat < N) :
    rows s (rowDims N D B L wf) n last x i (ix3 b l k) = x (ix2 ⟨(i (ix2 b l)).toNat, hi⟩ k) := by
  have hw := fun k => wrapped_apply s n i b l k (by omega)
  unfold rows
  show Scalar.select (broadcastInDim _ _ _ _ (ix3 b l k)) (Host.gather _ _ _ (ix3 b l k)) _ = _
  rw [bcast_pair, gather_rows (by omega)]
  have hmask : ∀ (v : IVec ⟨2, ![B, L]⟩ 1), v (ix2 b l) = 1#1 → ∀ (p q : F .f32), Scalar.select (v (ix2 b l)) p q = p :=
    fun v hv p q => if_pos hv
  rw [hmask]
  · refine congrArg x (congrArg (fun z => ix2 z k) (Fin.ext ?_))
    show min _ _ = _
    rw [hw, BitVec.toInt_eq_toNat_of_lt (by omega), Int.toNat_natCast]
    show min (i (ix2 b l)).toNat (N - 1) = (i (ix2 b l)).toNat
    omega
  · pointwise [hw]
    rw [(sge_iff_toNat (by omega) (by decide)).mpr (Nat.zero_le _), (sle_iff_toNat (by omega) (by omega)).mpr (by omega)]
    rfl

end Cert.Take
-- ==== Proof.Logits.lean ====
/- The reference's result, stated once over the activation: both references (with erf, and with formula 7.1.26 in erf's
   place) are this function at their own activation, each by unfolding. -/
module

public import proofs.«01_k».proof.Proof.Take
public import proofs.«01_k».proof.Proof.Gen.ReferenceIdeal.Run

@[expose] public section

set_option maxRecDepth 16384

noncomputable section

namespace Cert.Logits

open Idealize.ShloMosaic Idealize.ShloMosaic.TcCoe Cert.ReferenceIdeal Cert.ReferenceIdeal.Facts₀

variable {F : FTy → Type} [FloatOps F]

theorem posShapes : Take.Shapes 32 16384 200 where
  bL := bcast_S_S16384x200
  toL1 := bcast_S16384x200_S16384x200x1_0_1
  bL1 := bcast_S_S16384x200x1
  to1 := bcast_S1_S1x1x1_2
  lastL1 := bcast_S1x1x1_S16384x200x1_0_1_2
  red := reducesTo_S16384x200x1_S16384x200_d2
  pos := h_S_
  toLD := bcast_S16384x200_S16384x200x32_0_1
  bLD := bcast_S_S16384x200x32

theorem moveShapes : Take.Shapes 32 16384 50 where
  bL := bcast_S_S16384x50
  toL1 := bcast_S16384x50_S16384x50x1_0_1
  bL1 := bcast_S_S16384x50x1
  to1 := bcast_S1_S1x1x1_2
  lastL1 := bcast_S1x1x1_S16384x50x1_0_1_2
  red := reducesTo_S16384x50x1_S16384x50_d2
  pos := h_S_
  toLD := bcast_S16384x50_S16384x50x32_0_1
  bLD := bcast_S_S16384x50x32

/-- The mean of the embeddings of a position's tokens. -/
def mean (a0 : IVec S16384x200 32) (a3 : FVec F S8192x32 .f32) : FVec F S16384x32 .f32 :=
  Host.divf (Host.reduceAdd
      (Take.rows posShapes gather_S8192x32_S16384x200x1_S16384x200x32_2_0_n_n_0_2_132 8192#32 8191#32 a3 a0)
      (constant S_ .f32 0x00000000#32) reducesTo_S16384x200x32_S16384x32_d1 h_S_)
    (broadcastInDim S16384x32 ![] bcast_S_S16384x32 (constant S_ .f32 0x43480000#32))

/-- The sum of the embeddings of a move's four features. -/
def move (a1 : IVec S16384x50x4 32) (a4 : FVec F S82x32 .f32) (a5 : FVec F S81x32 .f32) (a6 : FVec F S2x32 .f32)
    (a7 : FVec F S8x32 .f32) : FVec F S16384x50x32 .f32 :=
  addf (addf (addf
    (Take.rows moveShapes gather_S82x32_S16384x50x1_S16384x50x32_2_0_n_n_0_2_132 82#32 81#32 a4
      (shapeCast S16384x50 (extractStridedSlice S16384x50x1 ![0, 0, 0] a1 slices_S16384x50x4_S16384x50x1_0_0_0)
        shapeCasts_S16384x50x1_S16384x50))
    (Take.rows moveShapes gather_S81x32_S16384x50x1_S16384x50x32_2_0_n_n_0_2_132 81#32 80#32 a5
      (shapeCast S16384x50 (extractStridedSlice S16384x50x1 ![0, 0, 1] a1 slices_S16384x50x4_S16384x50x1_0_0_1)
        shapeCasts_S16384x50x1_S16384x50)))
    (Take.rows moveShapes gather_S2x32_S16384x50x1_S16384x50x32_2_0_n_n_0_2_132 2#32 1#32 a6
      (shapeCast S16384x50 (extractStridedSlice S16384x50x1 ![0, 0, 2] a1 slices_S16384x50x4_S16384x50x1_0_0_2)
        shapeCasts_S16384x50x1_S16384x50)))
    (Take.rows moveShapes gather_S8x32_S16384x50x1_S16384x50x32_2_0_n_n_0_2_132 8#32 7#32 a7
      (shapeCast S16384x50 (extractStridedSlice S16384x50x1 ![0, 0, 3] a1 slices_S16384x50x4_S16384x50x1_0_0_3)
        shapeCasts_S16384x50x1_S16384x50))

/-- The first layer before the activation. -/
def hidden (mn : FVec F S16384x32 .f32) (mv : FVec F S16384x50x32 .f32) (a8 : FVec F S64x64 .f32) (a9 : FVec F S64 .f32) :
    FVec F S16384x50x64 .f32 :=
  addf (Host.dotGeneral dot_S16384x50x64_S64x64_S16384x50x64_2_0_01_1_n_n none
      (concatenate S16384x50x64 2
        [⟨S16384x50x32, broadcastInDim S16384x50x32 ![0, 1, 2] bcast_S16384x1x32_S16384x50x32_0_1_2
            (broadcastInDim S16384x1x32 ![0, 2] bcast_S16384x32_S16384x1x32_0_2 mn)⟩, ⟨S16384x50x32, mv⟩]
        concatenates_S16384x50x32_S16384x50x32_S16384x50x64_d2) a8)
    (broadcastInDim S16384x50x64 ![0, 1, 2] bcast_S1x1x64_S16384x50x64_0_1_2 (broadcastInDim S1x1x64 ![2] bcast_S64_S1x1x64_2 a9))

/-- The second layer and the mask, from the activated first layer. -/
def out (a2 : IVec S16384x50 1) (h : FVec F S16384x50x64 .f32) (a10 : FVec F S64x1 .f32) (a11 : FVec F S1 .f32) :
    FVec F S16384x50 .f32 :=
  select (noti a2) (broadcastInDim S16384x50 ![] bcast_S_S16384x50 (constant S_ .f32 0xFF7FFFFF#32))
    (shapeCast S16384x50 (addf (Host.dotGeneral dot_S16384x50x64_S64x1_S16384x50x1_2_0_01_1_n_n none h a10)
      (broadcastInDim S16384x50x1 ![0, 1, 2] bcast_S1x1x1_S16384x50x1_0_1_2 (broadcastInDim S1x1x1 ![2] bcast_S1_S1x1x1_2 a11)))
      shapeCasts_S16384x50x1_S16384x50)

/-- A number, everywhere. -/
abbrev all (w : BitVec 32) : FVec F S16384x50x64 .f32 := broadcastInDim S16384x50x64 ![] bcast_S_S16384x50x64 (constant S_ .f32 w)

/-- The activation with erf, as jax writes it: `(0.5 · h) · erfc (-h · 2^(-1/2))`. -/
def gelu (h : FVec F S16384x50x64 .f32) : FVec F S16384x50x64 .f32 :=
  mulf (mulf (all 0x3F000000#32) h) (Host.erfc (mulf (Host.negf h) (all 0x3F3504F3#32)))

/-- Formula 7.1.26 in powers of `t`. -/
def erfRat (z : FVec F S16384x50x64 .f32) : FVec F S16384x50x64 .f32 :=
  have t : FVec F S16384x50x64 .f32 :=
    Host.divf (all 0x3F800000#32) (addf (all 0x3F800000#32) (mulf (all 0x3EA7BA05#32) (Host.absf z)))
  have t2 : FVec F S16384x50x64 .f32 := mulf t t
  mulf (Host.sign z) (subf (all 0x3F800000#32)
    (mulf (addf (subf (addf (subf (mulf (all 0x3E827906#32) t) (mulf (all 0x3E91A98E#32) t2))
        (mulf (all 0x3FB5F0E3#32) (mulf t2 t))) (mulf (all 0x3FBA00E3#32) (mulf t2 t2)))
        (mulf (all 0x3F87DC22#32) (mulf t (mulf t2 t2))))
      (Host.exp (Host.negf (mulf z z)))))

/-- The activation with the formula in erf's place. -/
def geluRat (h : FVec F S16384x50x64 .f32) : FVec F S16384x50x64 .f32 :=
  mulf (mulf h (addf (all 0x3F800000#32) (erfRat (mulf h (all 0x3F3504F3#32))))) (all 0x3F000000#32)

/-- The logits over an activation. -/
def logits (act : FVec F S16384x50x64 .f32 → FVec F S16384x50x64 .f32) (a0 : IVec S16384x200 32) (a1 : IVec S16384x50x4 32)
    (a2 : IVec S16384x50 1) (a3 : FVec F S8192x32 .f32) (a4 : FVec F S82x32 .f32) (a5 : FVec F S81x32 .f32)
    (a6 : FVec F S2x32 .f32) (a7 : FVec F S8x32 .f32) (a8 : FVec F S64x64 .f32) (a9 : FVec F S64 .f32)
    (a10 : FVec F S64x1 .f32) (a11 : FVec F S1 .f32) : FVec F S16384x50 .f32 :=
  out a2 (act (hidden (mean a0 a3) (move a1 a4 a5 a6 a7) a8 a9)) a10 a11

/-- The run of the reference with erf: its result is the logits over `gelu`. -/
theorem exact_eq (m : (ℓ : Loc nD τ sig) → Buf (Elt F) ℓ) (c : Dev nD) :
    Value.res_main_v39 m c = logits gelu (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) := rfl

end Cert.Logits
end
-- ==== Proof.ReferenceAt.lean ====
/-
  The references at an index: on drawn inputs both compute the logit, the one over erf, the other over formula 7.1.26.
-/
module

public import proofs.«01_k».proof.Proof.Inputs
public import proofs.«01_k».proof.Proof.Logits

@[expose] public section

set_option maxRecDepth 16384

noncomputable section

namespace Cert.ReferenceAt

open Idealize.ShloMosaic Cert.ReferenceIdeal Cert.ReferenceIdeal.Facts₀ Cert.Spec Cert.Inputs

variable [Cert.ReferenceIdeal.Facts₀]

/-- The position's mean embedding: each token picks row zero or row one. -/
theorem mean_apply {a : Args} (h : a.Drawn) (p : Fin 16384) (k : Fin 32) :
    Logits.mean (F := Ideal) a.ids a.pos (ix2 p k) = meanOf a p k := by
  have hrow : ∀ l : Fin 200, Take.rows (F := Ideal) Logits.posShapes gather_S8192x32_S16384x200x1_S16384x200x32_2_0_n_n_0_2_132 8192#32 8191#32
      a.pos a.ids (ix3 p l k)
      = if (a.ids (ix2 p l) : BitVec 32).toNat = 1 then a.pos (ix2 1 k) else a.pos (ix2 0 k) := fun l => by
    have hl := h.ids (ix2 p l)
    refine (Take.rows_apply (F := Ideal) (N := 8192) Logits.posShapes gather_S8192x32_S16384x200x1_S16384x200x32_2_0_n_n_0_2_132_wf 8192#32 8191#32 a.pos a.ids p l k (by decide) (by decide) (by omega)).trans ?_
    rcases (show (a.ids (ix2 p l) : BitVec 32).toNat = 0 ∨ (a.ids (ix2 p l) : BitVec 32).toNat = 1 by omega) with e | e
    · rw [if_neg (by omega)]
      exact congrArg a.pos (congrArg (fun r => ix2 r k) (Fin.ext e))
    · rw [if_pos e]
      exact congrArg a.pos (congrArg (fun r => ix2 r k) (Fin.ext e))
  pointwise [Logits.mean]
  simp only [hrow]
  rw [ofBits_200]
  exact meanAt_eq (fun _ => h.pos _) (fun _ => h.pos _) (fun l => (a.ids (ix2 p l) : BitVec 32).toNat) (fun l => h.ids _) k

/-- Feature `t` of the moves, as the reference cuts it out. -/
theorem feature_apply (a : Args) (t : ℕ) (ht : t < 4) (hs : S16384x50x4.Slices ![0, 0, t] S16384x50x1) (p : Fin 16384) (i : Fin 50) :
    shapeCast S16384x50 (extractStridedSlice S16384x50x1 ![0, 0, t] a.feats hs) shapeCasts_S16384x50x1_S16384x50 (ix2 p i)
      = a.feats (ix3 p i ⟨t, ht⟩) := by
  pointwise []

/-- The row of a table of at least two that a feature picks. -/
theorem row_apply {a : Args} (h : a.Drawn) {N : ℕ} (wf) (n last : BitVec 32) (hN : last.toNat + 1 = N) (hN' : N ≤ 2 ^ 31) (h2 : 2 ≤ N)
    (x : FVec Ideal ⟨2, ![N, 32]⟩ .f32) (t : Fin 4) (hs : S16384x50x4.Slices ![0, 0, (t : ℕ)] S16384x50x1) (p : Fin 16384)
    (i : Fin 50) (k : Fin 32) :
    Take.rows Logits.moveShapes (Take.rowDims N 32 16384 50 wf) n last x
        (shapeCast S16384x50 (extractStridedSlice S16384x50x1 ![0, 0, (t : ℕ)] a.feats hs) shapeCasts_S16384x50x1_S16384x50) (ix3 p i k)
      = x (ix2 ⟨bit a p i t, (bit_lt a p i t).trans_le h2⟩ k) := by
  have hf := feature_apply a t t.isLt hs p i
  have hb := bit_eq h p i t
  have hl := bit_lt a p i t
  refine (Take.rows_apply Logits.moveShapes wf n last x _ p i k hN hN' (by rw [hf]; show BitVec.toNat (a.feats (ix3 p i t)) < N; omega)).trans ?_
  refine congrArg x (congrArg (fun r => ix2 r k) (Fin.ext ?_))
  exact (congrArg BitVec.toNat hf).trans hb.symm

/-- The move's embedding: one row of each table. -/
theorem move_apply {a : Args} (h : a.Drawn) (p : Fin 16384) (i : Fin 50) (k : Fin 32) :
    Logits.move (F := Ideal) a.feats a.start a.stop a.promo a.drop (ix3 p i k) = moveOf a p i k :=
  congrArg₂ (· + ·) (congrArg₂ (· + ·) (congrArg₂ (· + ·)
    (row_apply h (N := 82) gather_S82x32_S16384x50x1_S16384x50x32_2_0_n_n_0_2_132_wf 82#32 81#32 (by decide) (by decide) (by decide) a.start 0
      slices_S16384x50x4_S16384x50x1_0_0_0 p i k)
    (row_apply h (N := 81) gather_S81x32_S16384x50x1_S16384x50x32_2_0_n_n_0_2_132_wf 81#32 80#32 (by decide) (by decide) (by decide) a.stop 1
      slices_S16384x50x4_S16384x50x1_0_0_1 p i k))
    (row_apply h (N := 2) gather_S2x32_S16384x50x1_S16384x50x32_2_0_n_n_0_2_132_wf 2#32 1#32 (by decide) (by decide) (by decide) a.promo 2
      slices_S16384x50x4_S16384x50x1_0_0_2 p i k))
    (row_apply h (N := 8) gather_S8x32_S16384x50x1_S16384x50x32_2_0_n_n_0_2_132_wf 8#32 7#32 (by decide) (by decide) (by decide) a.drop 3
      slices_S16384x50x4_S16384x50x1_0_0_3 p i k)

/-- The first layer, the product with the joined embeddings split into its two halves. -/
theorem hidden_apply {a : Args} (h : a.Drawn) (p : Fin 16384) (i : Fin 50) (j : Fin 64) :
    Logits.hidden (F := Ideal) (Logits.mean a.ids a.pos) (Logits.move a.feats a.start a.stop a.promo a.drop) a.w1 a.b1 (ix3 p i j)
      = hiddenOf a p i j := by
  generalize hm : Logits.mean (F := Ideal) a.ids a.pos = mn
  generalize hv : Logits.move (F := Ideal) a.feats a.start a.stop a.promo a.drop = mv
  pointwise [Logits.hidden]
  subst hm hv
  simp only [mean_apply h, move_apply h]
  exact add_assoc _ _ _

/-- The reference's result over an activation that is `act e` on the real numbers, elementwise. -/
theorem logits_apply {e : EReal → EReal} {g : FVec Ideal S16384x50x64 .f32 → FVec Ideal S16384x50x64 .f32}
    (hg : ∀ x i, IsReal (x i) → g x i = act e (x i)) {a : Args} (h : a.Drawn) (p : Fin 16384) (i : Fin 50) :
    Logits.logits g a.ids a.feats a.mask a.pos a.start a.stop a.promo a.drop a.w1 a.b1 a.w2 a.b2 (ix2 p i) = logit e a p i := by
  unfold Logits.logits
  have hx := hidden_apply h p i
  generalize Logits.hidden (F := Ideal) (Logits.mean a.ids a.pos) (Logits.move a.feats a.start a.stop a.promo a.drop) a.w1 a.b1 = x at hx ⊢
  have hgx : ∀ j, g x (ix3 p i j) = act e (hiddenOf a p i j) := fun j => by
    rw [hg _ _ (by rw [hx]; exact hiddenOf_isReal h p i j), hx]
  generalize g x = y at hgx ⊢
  pointwise [Logits.out]
  rw [h.mask]
  simp only [hgx]
  rfl

theorem gelu_apply (x : FVec Ideal S16384x50x64 .f32) (i : S16384x50x64.Idx) : Logits.gelu x i = act Ideal.erf (x i) := by
  rw [← gelu_eq]
  pointwise [Logits.gelu]

theorem geluRat_apply (x : FVec Ideal S16384x50x64 .f32) (i : S16384x50x64.Idx) (hx : IsReal (x i)) :
    Logits.geluRat x i = act Rational.kernel (x i) := by
  rw [← Rational.gelu_eq _ hx]
  pointwise [Logits.geluRat, Logits.erfRat]
  rfl

end Cert.ReferenceAt

end
-- ==== Proof.LogitsRational.lean ====
/- The run of the reference with formula 7.1.26: its result is the logits of `Logits` over that activation. -/
module

public import proofs.«01_k».proof.Proof.Logits
public import proofs.«01_k».proof.Proof.Gen.ReferenceRationalIdeal.Run

@[expose] public section

set_option maxRecDepth 16384

noncomputable section

namespace Cert.LogitsRational

open Idealize.ShloMosaic Idealize.ShloMosaic.TcCoe Idealize.SL.Sem Cert.ReferenceRationalIdeal

variable {F : FTy → Type} [FloatOps F]

/-- From any launch it ends with the logits over `geluRat` and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76) = Logits.logits Logits.geluRat
        (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans rfl, (h c).2⟩) (Value.run m ρ)

end Cert.LogitsRational

end
-- ==== Proof.Drawn.lean ====
/-
  The precondition `drawn`, opened: where it holds, tokens and features are zero or one, the mask is one, and every
  float is a real number.
-/
module

public import proofs.«01_k».proof.Pre_drawn
public import proofs.«01_k».proof.Proof.Inputs
public import Idealize.ShloMosaic.Lib.StableHlo.Predicate

@[expose] public section

set_option maxRecDepth 16384

noncomputable section

namespace Cert.Pre_drawn

open Idealize.ShloMosaic Cert.Spec

/-- A scalar fits every shape. -/
theorem facts : Facts := by constructor <;> decide

theorem true_of_bit : ∀ b : Bool, BitVec.ofBool b = 1#1 → b = true := by decide

/-- An array whose magnitudes are below infinity holds real numbers. -/
theorem isReal_of {s : Shape} {hb : S_.BroadcastsInDim s (![] : Fin 0 → Fin s.rank)} {x : FVec Ideal s .f32}
    (h : cmpf .olt (Host.absf x) (broadcastInDim s ![] hb (constant S_ .f32 0x7F800000#32)) = fun _ => 1#1) (i : s.Idx) :
    IsReal (x i) := by
  have hi := congrFun h i
  change FloatOps.cmpf (F := Ideal) .olt (FloatOps.hostAbsf (x i)) (FloatOps.ofBits (F := Ideal) .f32 0x7F800000#32) = 1#1 at hi
  have hinf : (FloatOps.ofBits (F := Ideal) .f32 0x7F800000#32 : EReal) = ⊤ := by
    show Ideal.ofBits .f32 0x7F800000#32 = ⊤
    simp [Ideal.ofBits, Ideal.ieee]
  rw [hinf] at hi
  have hlt : max (x i : EReal) (-(x i)) < ⊤ :=
    of_decide_eq_true (true_of_bit _ hi)
  have h1 := (max_lt_iff.mp hlt).1
  have h2 := (max_lt_iff.mp hlt).2
  refine ⟨(x i : EReal).toReal, (EReal.coe_toReal h1.ne fun hb => ?_).symm⟩
  rw [hb] at h2
  exact absurd h2 (by simp)

/-- An array whose words lie from zero on, below two. -/
theorem lt_two_of {s : Shape} {hb hb' : S_.BroadcastsInDim s (![] : Fin 0 → Fin s.rank)} {x : IVec s 32}
    (h : andi (cmpi .sge x (broadcastInDim s ![] hb (constantI S_ 32 0#32))) (cmpi .slt x (broadcastInDim s ![] hb' (constantI S_ 32 2#32)))
      = fun _ => 1#1) (i : s.Idx) : (x i).toNat < 2 := by
  have hi := congrFun h i
  change IntOp.cmpi .sge (x i) 0#32 &&& IntOp.cmpi .slt (x i) 2#32 = 1#1 at hi
  generalize x i = w at hi
  have h1 : IntOp.cmpi .sge w 0#32 = 1#1 ∧ IntOp.cmpi .slt w 2#32 = 1#1 := by
    revert hi
    generalize IntOp.cmpi .sge w 0#32 = u
    generalize IntOp.cmpi .slt w 2#32 = v
    revert u v
    decide
  have h1 := And.intro (true_of_bit _ h1.1) (true_of_bit _ h1.2)
  rw [BitVec.sle_iff_toInt_le, BitVec.slt_iff_toInt_lt] at h1
  have e0 : (0#32).toInt = 0 := rfl
  have e2 : (2#32).toInt = 2 := rfl
  rw [e0, e2] at h1
  have hc := BitVec.toInt_eq_toNat_cond w
  have hw := w.isLt
  split at hc <;> omega

variable [Facts]

/-- The precondition's twelve arrays of bits. -/
abbrev P (a : Inputs.Args) :=
  fn (F := Ideal) a.ids a.feats a.mask a.pos a.start a.stop a.promo a.drop a.w1 a.b1 a.w2 a.b2

/-- Where they are all one, the inputs are as the value claims take them. -/
theorem drawn_of (a : Inputs.Args)
    (h : (P a).1 = (fun _ => 1#1) ∧ (P a).2.1 = (fun _ => 1#1) ∧ (P a).2.2.1 = (fun _ => 1#1) ∧ (P a).2.2.2.1 = (fun _ => 1#1) ∧ (P a).2.2.2.2.1 = (fun _ => 1#1) ∧ (P a).2.2.2.2.2.1 = (fun _ => 1#1) ∧ (P a).2.2.2.2.2.2.1 = (fun _ => 1#1) ∧ (P a).2.2.2.2.2.2.2.1 = (fun _ => 1#1) ∧ (P a).2.2.2.2.2.2.2.2.1 = (fun _ => 1#1) ∧ (P a).2.2.2.2.2.2.2.2.2.1 = (fun _ => 1#1) ∧ (P a).2.2.2.2.2.2.2.2.2.2.1 = (fun _ => 1#1) ∧ (P a).2.2.2.2.2.2.2.2.2.2.2 = (fun _ => 1#1)) : a.Drawn := by
  obtain ⟨h0, h1, h2, h3, h4, h5, h6, h7, h8, h9, h10, h11⟩ := h
  exact ⟨lt_two_of h0, lt_two_of h1, congrFun h2, isReal_of h3, isReal_of h4, isReal_of h5, isReal_of h6, isReal_of h7,
    isReal_of h8, isReal_of h9, isReal_of h10, isReal_of h11⟩

end Cert.Pre_drawn

end
-- ==== Proof.lean ====
/-
  The proof of `Cert.Claim`: the frames, the two idealizations, and the two equations between a kernel and a reference.

  The launch modules say what a run leaves in the result array, `KernelAt` what the table and its lookups compute,
  `ReferenceAt` what the references compute, both as the logit of `Inputs`; here they are put together.
-/
module

public import proofs.«01_k».proof.Defs
public import proofs.«01_k».proof.Proof.Gen.Kernel.Frame
public import proofs.«01_k».proof.Proof.Gen.KernelErf.Frame
public import proofs.«01_k».proof.Proof.Gen.ReferenceIdeal.Run
public import proofs.«01_k».proof.Proof.Gen.ReferenceRationalIdeal.Run
public import proofs.«01_k».proof.Proof.FinalRational
public import proofs.«01_k».proof.Proof.FinalErf
public import proofs.«01_k».proof.Proof.ReferenceAt
public import proofs.«01_k».proof.Proof.LogitsRational
public import proofs.«01_k».proof.Proof.Drawn
public import Idealize.ShloMosaic.Lib.Quiescent

@[expose] public section

set_option maxRecDepth 16384

noncomputable section

namespace Cert.Proof

open Idealize.ShloMosaic Idealize.ShloMosaic.TcCoe Idealize.SL.Sem

/-- The precondition's shape facts, for every statement below. -/
local instance preFacts : Cert.Pre_drawn.Facts := Cert.Pre_drawn.facts

/-- The reference over erf runs, leaves its arguments as they were, and has no counter to change. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the reference over formula 7.1.26. -/
theorem frame_reference_rational : Cert.quiescent_ReferenceRationalIdeal := fun m ρ _ =>
  (θ_run Cert.ReferenceRationalIdeal.defs _ _).mono (fun r h => ⟨fun c => (h c).2, sem_eq_zero_of_no_sems (by decide) r.2⟩)
    (Cert.ReferenceRationalIdeal.Value.run (F := Ideal) m ρ)

/-- The kernel with erf in its activation computes the reference. -/
theorem exact_value : Cert.algebraic_KernelErfIdeal_ReferenceIdeal_pre_drawn := by
  intro m ρ m' ρ' hpre hagree
  have hd : ∀ c, (Cert.KernelErfIdeal.Final.args m c).Drawn := fun c => Cert.Pre_drawn.drawn_of _ (hpre c)
  refine ⟨Cert.KernelErfIdeal.Final.value m, ?_, ?_⟩
  · refine (θ_run Cert.KernelErfIdeal.defs _ _).mono (fun r h c => ?_) (Cert.KernelErfIdeal.Launch.run m ρ)
    exact ⟨(h.1 c).1.trans (Cert.KernelErfIdeal.Final.final_eq m ρ c (hd c)), (h.1 c).2⟩
  refine (θ_run Cert.ReferenceIdeal.defs _ _).mono (fun r h c => ⟨(h c).1.trans ((Logits.exact_eq m' c).trans ?_), (h c).2⟩) (Cert.ReferenceIdeal.Value.run m' ρ')
  obtain ⟨e0, e1, e2, e3, e4, e5, e6, e7, e8, e9, e10, e11⟩ := hagree c
  unfold Cert.KernelErfIdeal.Final.value
  rw [e0, e1, e2, e3, e4, e5, e6, e7, e8, e9, e10, e11]
  exact Inputs.eq_result fun p i => ReferenceAt.logits_apply (fun x i _ => ReferenceAt.gelu_apply x i) (hd c) p i

/-- The kernel with its own approximation of erf computes the reference with formula 7.1.26 in place of erf. -/
theorem rational_value : Cert.algebraic_KernelIdeal_ReferenceRationalIdeal_pre_drawn := by
  intro m ρ m' ρ' hpre hagree
  have hd : ∀ c, (Cert.KernelIdeal.Final.args m c).Drawn := fun c => Cert.Pre_drawn.drawn_of _ (hpre c)
  refine ⟨Cert.KernelIdeal.Final.value m, ?_, ?_⟩
  · refine (θ_run Cert.KernelIdeal.defs _ _).mono (fun r h c => ?_) (Cert.KernelIdeal.Launch.run m ρ)
    exact ⟨(h.1 c).1.trans (Cert.KernelIdeal.Final.final_eq m ρ c (hd c)), (h.1 c).2⟩
  refine (θ_run Cert.ReferenceRationalIdeal.defs _ _).mono (fun r h c => ⟨(h c).1.trans ?_, (h c).2⟩) (LogitsRational.run m' ρ')
  obtain ⟨e0, e1, e2, e3, e4, e5, e6, e7, e8, e9, e10, e11⟩ := hagree c
  unfold Cert.KernelIdeal.Final.value
  rw [e0, e1, e2, e3, e4, e5, e6, e7, e8, e9, e10, e11]
  exact Inputs.eq_result fun p i => ReferenceAt.logits_apply ReferenceAt.geluRat_apply (hd c) p i

/-- All the claims. -/
theorem claim : Cert.Claim :=
  ⟨Cert.Kernel.Gen.facts, Cert.KernelIdeal.Gen.facts, Cert.KernelErf.Gen.facts, Cert.KernelErfIdeal.Gen.facts,
    Cert.ReferenceIdeal.Gen.facts, Cert.ReferenceRationalIdeal.Gen.facts, Cert.Pre_drawn.facts,
    fun m ρ _ => Cert.Kernel.Gen.frame m ρ, fun m ρ _ => Cert.KernelIdeal.Gen.frame m ρ,
    fun m ρ _ => Cert.KernelIdeal.Gen.frame m ρ, fun m ρ _ => Cert.KernelErf.Gen.frame m ρ,
    fun m ρ _ => Cert.KernelErfIdeal.Gen.frame m ρ, fun m ρ _ => Cert.KernelErfIdeal.Gen.frame m ρ,
    frame_reference, fun m ρ _ => frame_reference m ρ trivial, frame_reference_rational,
    fun m ρ _ => frame_reference_rational m ρ trivial,
    IdealRules.sign_bit.statement Cert.KernelIdeal.S201x64 .f32, trivial, exact_value, rational_value⟩

end Cert.Proof

end
